-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S32 : Shape := ⟨1, ![32]⟩
abbrev S_ : Shape := ⟨0, ![]⟩
abbrev S31 : Shape := ⟨1, ![31]⟩
abbrev S2 : Shape := ⟨1, ![2]⟩
abbrev S31x1 : Shape := ⟨2, ![31, 1]⟩
abbrev S64 : Shape := ⟨1, ![64]⟩
abbrev S1x1 : Shape := ⟨2, ![1, 1]⟩
abbrev S2x128x4096 : Shape := ⟨3, ![2, 128, 4096]⟩
abbrev S128x4096 : Shape := ⟨2, ![128, 4096]⟩
abbrev S128x128 : Shape := ⟨2, ![128, 128]⟩
abbrev S1x128x4096 : Shape := ⟨3, ![1, 128, 4096]⟩

abbrev nBuf : Space → Nat
  | .hbm => 149
  | .vmem => 5
  | .smem => 3
  | _ => 0

abbrev hbmTy0_0 (i : Nat) : BufTy := match i % 128 with
  | 0 => ⟨S4096x128, .fp8e4m3⟩
  | 1 => ⟨S128x8192, .fp8e5m2⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S31, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i1⟩
  | 33 => ⟨S_, .i32⟩
  | 34 => ⟨S_, .i1⟩
  | 35 => ⟨S_, .i1⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i1⟩
  | 59 => ⟨S_, .i32⟩
  | 60 => ⟨S_, .i1⟩
  | 61 => ⟨S_, .i1⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S_, .i32⟩
  | 72 => ⟨S1, .i32⟩
  | 73 => ⟨S1, .i32⟩
  | 74 => ⟨S2, .i32⟩
  | 75 => ⟨S_, .i32⟩
  | 76 => ⟨S_, .i32⟩
  | 77 => ⟨S31, .i32⟩
  | 78 => ⟨S31, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S31, .i32⟩
  | 86 => ⟨S31, .i32⟩
  | 87 => ⟨S_, .i32⟩
  | 88 => ⟨S31, .i32⟩
  | 89 => ⟨S31, .i1⟩
  | 90 => ⟨S_, .i32⟩
  | 91 => ⟨S31, .i32⟩
  | 92 => ⟨S31, .i1⟩
  | 93 => ⟨S_, .i32⟩
  | 94 => ⟨S_, .i1⟩
  | 95 => ⟨S31, .i1⟩
  | 96 => ⟨S31, .i1⟩
  | 97 => ⟨S31, .i1⟩
  | 98 => ⟨S31, .i32⟩
  | 99 => ⟨S31, .i32⟩
  | 100 => ⟨S31, .i32⟩
  | 101 => ⟨S_, .i32⟩
  | 102 => ⟨S31, .i32⟩
  | 103 => ⟨S31, .i1⟩
  | 104 => ⟨S_, .i32⟩
  | 105 => ⟨S31, .i32⟩
  | 106 => ⟨S31, .i32⟩
  | 107 => ⟨S31, .i32⟩
  | 108 => ⟨S31x1, .i32⟩
  | 109 => ⟨S31, .i32⟩
  | 110 => ⟨S_, .i32⟩
  | 111 => ⟨S_, .i32⟩
  | 112 => ⟨S31, .i32⟩
  | 113 => ⟨S31, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S31, .i32⟩
  | 121 => ⟨S31, .i32⟩
  | 122 => ⟨S_, .i32⟩
  | 123 => ⟨S31, .i32⟩
  | 124 => ⟨S31, .i1⟩
  | 125 => ⟨S_, .i32⟩
  | 126 => ⟨S31, .i32⟩
  | 127 => ⟨S31, .i1⟩
  | _ => ⟨S4096x128, .fp8e4m3⟩

abbrev hbmTy0_1 (i : Nat) : BufTy := match i % 128 with
  | 0 => ⟨S_, .i32⟩
  | 1 => ⟨S_, .i1⟩
  | 2 => ⟨S31, .i1⟩
  | 3 => ⟨S31, .i1⟩
  | 4 => ⟨S31, .i1⟩
  | 5 => ⟨S31, .i32⟩
  | 6 => ⟨S31, .i32⟩
  | 7 => ⟨S31, .i32⟩
  | 8 => ⟨S_, .i32⟩
  | 9 => ⟨S31, .i32⟩
  | 10 => ⟨S31, .i1⟩
  | 11 => ⟨S_, .i32⟩
  | 12 => ⟨S31, .i32⟩
  | 13 => ⟨S31, .i32⟩
  | 14 => ⟨S31, .i32⟩
  | 15 => ⟨S31x1, .i32⟩
  | 16 => ⟨S31, .i32⟩
  | 17 => ⟨S64, .i32⟩
  | 18 => ⟨S1x1, .f32⟩
  | 19 => ⟨S1x1, .f32⟩
  | 20 => ⟨S128x8192, .f32⟩
  | _ => ⟨S4096x128, .fp8e4m3⟩

abbrev hbmTy (i : Nat) : BufTy := match i / 128 with
  | 0 => hbmTy0_0 i
  | 1 => hbmTy0_1 i
  | _ => ⟨S4096x128, .fp8e4m3⟩

abbrev bufTy : (tb : Table) → Fin (tcTables nBuf tb) → BufTy
  | .hbm, ⟨i, _⟩ => hbmTy i
  | .local _ .vmem, ⟨0, _⟩ => ⟨S4096x128, .fp8e4m3⟩
  | .local _ .vmem, ⟨1, _⟩ => ⟨S128x8192, .fp8e5m2⟩
  | .local _ .vmem, ⟨2, _⟩ => ⟨S128x8192, .f32⟩
  | .local _ .vmem, ⟨3, _⟩ => ⟨S2x128x4096, .bf16⟩
  | .local _ .vmem, ⟨4, _⟩ => ⟨S2x128x4096, .bf16⟩
  | .local _ .smem, ⟨0, _⟩ => ⟨S64, .i32⟩
  | .local _ .smem, ⟨1, _⟩ => ⟨S1x1, .f32⟩
  | .local _ .smem, ⟨2, _⟩ => ⟨S1x1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_c_6 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_c_1 : Ref sig .tc := ⟨.hbm, 29, rfl⟩
abbrev main_call0_v4 : Ref sig .tc := ⟨.hbm, 30, rfl⟩
abbrev main_call0_c_2 : Ref sig .tc := ⟨.hbm, 31, rfl⟩
abbrev main_call0_v5 : Ref sig .tc := ⟨.hbm, 32, rfl⟩
abbrev main_call0_c_3 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_v12 : Ref sig .tc := ⟨.hbm, 38, rfl⟩
abbrev main_c_7 : Ref sig .tc := ⟨.hbm, 39, rfl⟩
abbrev main_v13 : Ref sig .tc := ⟨.hbm, 40, rfl⟩
abbrev main_c_8 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_9 : Ref sig .tc := ⟨.hbm, 46, rfl⟩
abbrev main_v18 : Ref sig .tc := ⟨.hbm, 47, rfl⟩
abbrev main_c_10 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_v4 : Ref sig .tc := ⟨.hbm, 56, rfl⟩
abbrev main_call1_c_2 : Ref sig .tc := ⟨.hbm, 57, rfl⟩
abbrev main_call1_v5 : Ref sig .tc := ⟨.hbm, 58, rfl⟩
abbrev main_call1_c_3 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_v19 : Ref sig .tc := ⟨.hbm, 64, rfl⟩
abbrev main_c_11 : Ref sig .tc := ⟨.hbm, 65, rfl⟩
abbrev main_v20 : Ref sig .tc := ⟨.hbm, 66, rfl⟩
abbrev main_c_12 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_c_13 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_c_14 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_c_1 : Ref sig .tc := ⟨.hbm, 87, rfl⟩
abbrev main_call2_v5 : Ref sig .tc := ⟨.hbm, 88, rfl⟩
abbrev main_call2_v6 : Ref sig .tc := ⟨.hbm, 89, rfl⟩
abbrev main_call2_c_2 : Ref sig .tc := ⟨.hbm, 90, rfl⟩
abbrev main_call2_v7 : Ref sig .tc := ⟨.hbm, 91, rfl⟩
abbrev main_call2_v8 : Ref sig .tc := ⟨.hbm, 92, rfl⟩
abbrev main_call2_c_3 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_v31 : Ref sig .tc := ⟨.hbm, 100, rfl⟩
abbrev main_c_15 : Ref sig .tc := ⟨.hbm, 101, rfl⟩
abbrev main_v32 : Ref sig .tc := ⟨.hbm, 102, rfl⟩
abbrev main_v33 : Ref sig .tc := ⟨.hbm, 103, rfl⟩
abbrev main_c_16 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_c_17 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_18 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v42 : Ref sig .tc := ⟨.hbm, 135, rfl⟩
abbrev main_c_19 : Ref sig .tc := ⟨.hbm, 136, rfl⟩
abbrev main_v43 : Ref sig .tc := ⟨.hbm, 137, rfl⟩
abbrev main_v44 : Ref sig .tc := ⟨.hbm, 138, rfl⟩
abbrev main_c_20 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev cc0_stg1_0 : Ref sig .tc := ⟨.vmem, 0, rfl⟩
abbrev cc0_stg2_0 : Ref sig .tc := ⟨.vmem, 1, rfl⟩
abbrev cc0_stg5_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v1 : BitVec 32) : Fin 2 → Nat :=
  let c128_i32 : BitVec 32 := 128#32
  let v13 : BitVec 32 := Scalar.muli v1 c128_i32
  let v14 : Index := Scalar.indexCast v13
  let c0_7 : Index := 0#32
  ![v14.toNat, 0]
def k0_off2 (v0 : BitVec 32) : Fin 2 → Nat :=
  let c128_i32_11 : BitVec 32 := 128#32
  let v23 : BitVec 32 := Scalar.muli v0 c128_i32_11
  let v24 : Index := Scalar.indexCast v23
  let c0_12 : Index := 0#32
  ![v24.toNat, 0]
def k0_dev3 (v0 : BitVec 32) : Nat :=
  let c0_i32_26 : BitVec 32 := 0#32
  let c1_i32_25 : BitVec 32 := 1#32
  let v36 : BitVec 32 := Scalar.muli v0 c1_i32_25
  let v37 : BitVec 32 := Scalar.addi c0_i32_26 v36
  v37.toNat
def k0_off3 (v46 : BitVec 32) : Fin 2 → Nat :=
  let c128_i32_31 : BitVec 32 := 128#32
  let v47 : BitVec 32 := Scalar.muli v46 c128_i32_31
  let v48 : Index := Scalar.indexCast v47
  let c0_32 : Index := 0#32
  ![v48.toNat, 0]

def k0_chk3 (v46 : BitVec 32) : Prop :=
  (∀ a, (k0_off3 v46) a + S128x128.size a ≤ S4096x128.size a)
theorem k0_off3_inb : ∀ (v46 : BitVec 32) (k0_hw3 : k0_chk3 v46), ∀ a, (k0_off3 v46) a + S128x128.size a ≤ S4096x128.size a := fun v46 k0_hw3 => k0_hw3

def k0_off4 (v53 : BitVec 32) : Fin 2 → Nat :=
  let c128_i32_34 : BitVec 32 := 128#32
  let v54 : BitVec 32 := Scalar.muli v53 c128_i32_34
  let v55 : Index := Scalar.indexCast v54
  let c0_35 : Index := 0#32
  ![v55.toNat, 0]

def k0_chk4 (v53 : BitVec 32) : Prop :=
  (∀ a, (k0_off4 v53) a + S128x128.size a ≤ S4096x128.size a)
theorem k0_off4_inb : ∀ (v53 : BitVec 32) (k0_hw4 : k0_chk4 v53), ∀ a, (k0_off4 v53) a + S128x128.size a ≤ S4096x128.size a := fun v53 k0_hw4 => k0_hw4

def k0_dev4 (v1 : BitVec 32) : Nat :=
  let c0_i32_61 : BitVec 32 := 0#32
  let c1_i32_60 : BitVec 32 := 1#32
  let v74 : BitVec 32 := Scalar.muli v1 c1_i32_60
  let v75 : BitVec 32 := Scalar.addi c0_i32_61 v74
  v75.toNat
def k0_dev5 (v0 : BitVec 32) : Nat :=
  let c0_i32_102 : BitVec 32 := 0#32
  let c1_i32_101 : BitVec 32 := 1#32
  let v114 : BitVec 32 := Scalar.muli v0 c1_i32_101
  let v115 : BitVec 32 := Scalar.addi c0_i32_102 v114
  v115.toNat
def k0_off5 (v124 : BitVec 32) : Fin 2 → Nat :=
  let c128_i32_107 : BitVec 32 := 128#32
  let v125 : BitVec 32 := Scalar.muli v124 c128_i32_107
  let v126 : Index := Scalar.indexCast v125
  let c0_108 : Index := 0#32
  ![v126.toNat, 0]

def k0_chk5 (v124 : BitVec 32) : Prop :=
  (∀ a, (k0_off5 v124) a + S128x128.size a ≤ S4096x128.size a)
theorem k0_off5_inb : ∀ (v124 : BitVec 32) (k0_hw5 : k0_chk5 v124), ∀ a, (k0_off5 v124) a + S128x128.size a ≤ S4096x128.size a := fun v124 k0_hw5 => k0_hw5

def k0_off6 (v131 : BitVec 32) : Fin 2 → Nat :=
  let c128_i32_110 : BitVec 32 := 128#32
  let v132 : BitVec 32 := Scalar.muli v131 c128_i32_110
  let v133 : Index := Scalar.indexCast v132
  let c0_111 : Index := 0#32
  ![v133.toNat, 0]

def k0_chk6 (v131 : BitVec 32) : Prop :=
  (∀ a, (k0_off6 v131) a + S128x128.size a ≤ S4096x128.size a)
theorem k0_off6_inb : ∀ (v131 : BitVec 32) (k0_hw6 : k0_chk6 v131), ∀ a, (k0_off6 v131) a + S128x128.size a ≤ S4096x128.size a := fun v131 k0_hw6 => k0_hw6

def k0_dev6 (v1 : BitVec 32) : Nat :=
  let c0_i32_137 : BitVec 32 := 0#32
  let c1_i32_136 : BitVec 32 := 1#32
  let v152 : BitVec 32 := Scalar.muli v1 c1_i32_136
  let v153 : BitVec 32 := Scalar.addi c0_i32_137 v152
  v153.toNat
def k0_dev7 (v0 : BitVec 32) : Nat :=
  let c0_i32_178 : BitVec 32 := 0#32
  let c1_i32_177 : BitVec 32 := 1#32
  let v192 : BitVec 32 := Scalar.muli v0 c1_i32_177
  let v193 : BitVec 32 := Scalar.addi c0_i32_178 v192
  v193.toNat
def k0_off7 (v202 : BitVec 32) : Fin 2 → Nat :=
  let c128_i32_183 : BitVec 32 := 128#32
  let v203 : BitVec 32 := Scalar.muli v202 c128_i32_183
  let v204 : Index := Scalar.indexCast v203
  let c0_184 : Index := 0#32
  ![v204.toNat, 0]

def k0_chk7 (v202 : BitVec 32) : Prop :=
  (∀ a, (k0_off7 v202) a + S128x128.size a ≤ S4096x128.size a)
theorem k0_off7_inb : ∀ (v202 : BitVec 32) (k0_hw7 : k0_chk7 v202), ∀ a, (k0_off7 v202) a + S128x128.size a ≤ S4096x128.size a := fun v202 k0_hw7 => k0_hw7

def k0_off8 (v209 : BitVec 32) : Fin 2 → Nat :=
  let c128_i32_186 : BitVec 32 := 128#32
  let v210 : BitVec 32 := Scalar.muli v209 c128_i32_186
  let v211 : Index := Scalar.indexCast v210
  let c0_187 : Index := 0#32
  ![v211.toNat, 0]

def k0_chk8 (v209 : BitVec 32) : Prop :=
  (∀ a, (k0_off8 v209) a + S128x128.size a ≤ S4096x128.size a)
theorem k0_off8_inb : ∀ (v209 : BitVec 32) (k0_hw8 : k0_chk8 v209), ∀ a, (k0_off8 v209) a + S128x128.size a ≤ S4096x128.size a := fun v209 k0_hw8 => k0_hw8

def k0_dev8 (v1 : BitVec 32) : Nat :=
  let c0_i32_213 : BitVec 32 := 0#32
  let c1_i32_212 : BitVec 32 := 1#32
  let v230 : BitVec 32 := Scalar.muli v1 c1_i32_212
  let v231 : BitVec 32 := Scalar.addi c0_i32_213 v230
  v231.toNat
def k0_dev9 (v0 : BitVec 32) : Nat :=
  let c0_i32_254 : BitVec 32 := 0#32
  let c1_i32_253 : BitVec 32 := 1#32
  let v270 : BitVec 32 := Scalar.muli v0 c1_i32_253
  let v271 : BitVec 32 := Scalar.addi c0_i32_254 v270
  v271.toNat
def k0_off9 (v280 : BitVec 32) : Fin 2 → Nat :=
  let c128_i32_259 : BitVec 32 := 128#32
  let v281 : BitVec 32 := Scalar.muli v280 c128_i32_259
  let v282 : Index := Scalar.indexCast v281
  let c0_260 : Index := 0#32
  ![v282.toNat, 0]

def k0_chk9 (v280 : BitVec 32) : Prop :=
  (∀ a, (k0_off9 v280) a + S128x128.size a ≤ S4096x128.size a)
theorem k0_off9_inb : ∀ (v280 : BitVec 32) (k0_hw9 : k0_chk9 v280), ∀ a, (k0_off9 v280) a + S128x128.size a ≤ S4096x128.size a := fun v280 k0_hw9 => k0_hw9

def k0_off10 (v287 : BitVec 32) : Fin 2 → Nat :=
  let c128_i32_262 : BitVec 32 := 128#32
  let v288 : BitVec 32 := Scalar.muli v287 c128_i32_262
  let v289 : Index := Scalar.indexCast v288
  let c0_263 : Index := 0#32
  ![v289.toNat, 0]

def k0_chk10 (v287 : BitVec 32) : Prop :=
  (∀ a, (k0_off10 v287) a + S128x128.size a ≤ S4096x128.size a)
theorem k0_off10_inb : ∀ (v287 : BitVec 32) (k0_hw10 : k0_chk10 v287), ∀ a, (k0_off10 v287) a + S128x128.size a ≤ S4096x128.size a := fun v287 k0_hw10 => k0_hw10

def k0_dev10 (v1 : BitVec 32) : Nat :=
  let c0_i32_289 : BitVec 32 := 0#32
  let c1_i32_288 : BitVec 32 := 1#32
  let v308 : BitVec 32 := Scalar.muli v1 c1_i32_288
  let v309 : BitVec 32 := Scalar.addi c0_i32_289 v308
  v309.toNat
def k0_dev11 (v0 : BitVec 32) : Nat :=
  let c0_i32_330 : BitVec 32 := 0#32
  let c1_i32_329 : BitVec 32 := 1#32
  let v348 : BitVec 32 := Scalar.muli v0 c1_i32_329
  let v349 : BitVec 32 := Scalar.addi c0_i32_330 v348
  v349.toNat
def k0_off11 (v358 : BitVec 32) : Fin 2 → Nat :=
  let c128_i32_335 : BitVec 32 := 128#32
  let v359 : BitVec 32 := Scalar.muli v358 c128_i32_335
  let v360 : Index := Scalar.indexCast v359
  let c0_336 : Index := 0#32
  ![v360.toNat, 0]

def k0_chk11 (v358 : BitVec 32) : Prop :=
  (∀ a, (k0_off11 v358) a + S128x128.size a ≤ S4096x128.size a)
theorem k0_off11_inb : ∀ (v358 : BitVec 32) (k0_hw11 : k0_chk11 v358), ∀ a, (k0_off11 v358) a + S128x128.size a ≤ S4096x128.size a := fun v358 k0_hw11 => k0_hw11

def k0_off12 (v365 : BitVec 32) : Fin 2 → Nat :=
  let c128_i32_338 : BitVec 32 := 128#32
  let v366 : BitVec 32 := Scalar.muli v365 c128_i32_338
  let v367 : Index := Scalar.indexCast v366
  let c0_339 : Index := 0#32
  ![v367.toNat, 0]

def k0_chk12 (v365 : BitVec 32) : Prop :=
  (∀ a, (k0_off12 v365) a + S128x128.size a ≤ S4096x128.size a)
theorem k0_off12_inb : ∀ (v365 : BitVec 32) (k0_hw12 : k0_chk12 v365), ∀ a, (k0_off12 v365) a + S128x128.size a ≤ S4096x128.size a := fun v365 k0_hw12 => k0_hw12

def k0_dev12 (v1 : BitVec 32) : Nat :=
  let c0_i32_365 : BitVec 32 := 0#32
  let c1_i32_364 : BitVec 32 := 1#32
  let v386 : BitVec 32 := Scalar.muli v1 c1_i32_364
  let v387 : BitVec 32 := Scalar.addi c0_i32_365 v386
  v387.toNat
def k0_dev13 (v0 : BitVec 32) : Nat :=
  let c0_i32_406 : BitVec 32 := 0#32
  let c1_i32_405 : BitVec 32 := 1#32
  let v426 : BitVec 32 := Scalar.muli v0 c1_i32_405
  let v427 : BitVec 32 := Scalar.addi c0_i32_406 v426
  v427.toNat
def k0_off13 (v436 : BitVec 32) : Fin 2 → Nat :=
  let c128_i32_411 : BitVec 32 := 128#32
  let v437 : BitVec 32 := Scalar.muli v436 c128_i32_411
  let v438 : Index := Scalar.indexCast v437
  let c0_412 : Index := 0#32
  ![v438.toNat, 0]

def k0_chk13 (v436 : BitVec 32) : Prop :=
  (∀ a, (k0_off13 v436) a + S128x128.size a ≤ S4096x128.size a)
theorem k0_off13_inb : ∀ (v436 : BitVec 32) (k0_hw13 : k0_chk13 v436), ∀ a, (k0_off13 v436) a + S128x128.size a ≤ S4096x128.size a := fun v436 k0_hw13 => k0_hw13

def k0_off14 (v443 : BitVec 32) : Fin 2 → Nat :=
  let c128_i32_414 : BitVec 32 := 128#32
  let v444 : BitVec 32 := Scalar.muli v443 c128_i32_414
  let v445 : Index := Scalar.indexCast v444
  let c0_415 : Index := 0#32
  ![v445.toNat, 0]

def k0_chk14 (v443 : BitVec 32) : Prop :=
  (∀ a, (k0_off14 v443) a + S128x128.size a ≤ S4096x128.size a)
theorem k0_off14_inb : ∀ (v443 : BitVec 32) (k0_hw14 : k0_chk14 v443), ∀ a, (k0_off14 v443) a + S128x128.size a ≤ S4096x128.size a := fun v443 k0_hw14 => k0_hw14

def k0_dev14 (v1 : BitVec 32) : Nat :=
  let c0_i32_441 : BitVec 32 := 0#32
  let c1_i32_440 : BitVec 32 := 1#32
  let v464 : BitVec 32 := Scalar.muli v1 c1_i32_440
  let v465 : BitVec 32 := Scalar.addi c0_i32_441 v464
  v465.toNat
def k0_dev15 (v0 : BitVec 32) : Nat :=
  let c0_i32_482 : BitVec 32 := 0#32
  let c1_i32_481 : BitVec 32 := 1#32
  let v504 : BitVec 32 := Scalar.muli v0 c1_i32_481
  let v505 : BitVec 32 := Scalar.addi c0_i32_482 v504
  v505.toNat
def k0_off15 (v514 : BitVec 32) : Fin 2 → Nat :=
  let c128_i32_487 : BitVec 32 := 128#32
  let v515 : BitVec 32 := Scalar.muli v514 c128_i32_487
  let v516 : Index := Scalar.indexCast v515
  let c0_488 : Index := 0#32
  ![v516.toNat, 0]

def k0_chk15 (v514 : BitVec 32) : Prop :=
  (∀ a, (k0_off15 v514) a + S128x128.size a ≤ S4096x128.size a)
theorem k0_off15_inb : ∀ (v514 : BitVec 32) (k0_hw15 : k0_chk15 v514), ∀ a, (k0_off15 v514) a + S128x128.size a ≤ S4096x128.size a := fun v514 k0_hw15 => k0_hw15

def k0_off16 (v521 : BitVec 32) : Fin 2 → Nat :=
  let c128_i32_490 : BitVec 32 := 128#32
  let v522 : BitVec 32 := Scalar.muli v521 c128_i32_490
  let v523 : Index := Scalar.indexCast v522
  let c0_491 : Index := 0#32
  ![v523.toNat, 0]

def k0_chk16 (v521 : BitVec 32) : Prop :=
  (∀ a, (k0_off16 v521) a + S128x128.size a ≤ S4096x128.size a)
theorem k0_off16_inb : ∀ (v521 : BitVec 32) (k0_hw16 : k0_chk16 v521), ∀ a, (k0_off16 v521) a + S128x128.size a ≤ S4096x128.size a := fun v521 k0_hw16 => k0_hw16

def k0_dev16 (v1 : BitVec 32) : Nat :=
  let c0_i32_517 : BitVec 32 := 0#32
  let c1_i32_516 : BitVec 32 := 1#32
  let v542 : BitVec 32 := Scalar.muli v1 c1_i32_516
  let v543 : BitVec 32 := Scalar.addi c0_i32_517 v542
  v543.toNat
def k0_dev17 (v0 : BitVec 32) : Nat :=
  let c0_i32_558 : BitVec 32 := 0#32
  let c1_i32_557 : BitVec 32 := 1#32
  let v582 : BitVec 32 := Scalar.muli v0 c1_i32_557
  let v583 : BitVec 32 := Scalar.addi c0_i32_558 v582
  v583.toNat
def k0_off17 (v592 : BitVec 32) : Fin 2 → Nat :=
  let c128_i32_563 : BitVec 32 := 128#32
  let v593 : BitVec 32 := Scalar.muli v592 c128_i32_563
  let v594 : Index := Scalar.indexCast v593
  let c0_564 : Index := 0#32
  ![v594.toNat, 0]

def k0_chk17 (v592 : BitVec 32) : Prop :=
  (∀ a, (k0_off17 v592) a + S128x128.size a ≤ S4096x128.size a)
theorem k0_off17_inb : ∀ (v592 : BitVec 32) (k0_hw17 : k0_chk17 v592), ∀ a, (k0_off17 v592) a + S128x128.size a ≤ S4096x128.size a := fun v592 k0_hw17 => k0_hw17

def k0_off18 (v599 : BitVec 32) : Fin 2 → Nat :=
  let c128_i32_566 : BitVec 32 := 128#32
  let v600 : BitVec 32 := Scalar.muli v599 c128_i32_566
  let v601 : Index := Scalar.indexCast v600
  let c0_567 : Index := 0#32
  ![v601.toNat, 0]

def k0_chk18 (v599 : BitVec 32) : Prop :=
  (∀ a, (k0_off18 v599) a + S128x128.size a ≤ S4096x128.size a)
theorem k0_off18_inb : ∀ (v599 : BitVec 32) (k0_hw18 : k0_chk18 v599), ∀ a, (k0_off18 v599) a + S128x128.size a ≤ S4096x128.size a := fun v599 k0_hw18 => k0_hw18

def k0_dev18 (v1 : BitVec 32) : Nat :=
  let c0_i32_593 : BitVec 32 := 0#32
  let c1_i32_592 : BitVec 32 := 1#32
  let v620 : BitVec 32 := Scalar.muli v1 c1_i32_592
  let v621 : BitVec 32 := Scalar.addi c0_i32_593 v620
  v621.toNat
def k0_dev19 (v0 : BitVec 32) : Nat :=
  let c0_i32_634 : BitVec 32 := 0#32
  let c1_i32_633 : BitVec 32 := 1#32
  let v660 : BitVec 32 := Scalar.muli v0 c1_i32_633
  let v661 : BitVec 32 := Scalar.addi c0_i32_634 v660
  v661.toNat
def k0_off19 (v670 : BitVec 32) : Fin 2 → Nat :=
  let c128_i32_639 : BitVec 32 := 128#32
  let v671 : BitVec 32 := Scalar.muli v670 c128_i32_639
  let v672 : Index := Scalar.indexCast v671
  let c0_640 : Index := 0#32
  ![v672.toNat, 0]

def k0_chk19 (v670 : BitVec 32) : Prop :=
  (∀ a, (k0_off19 v670) a + S128x128.size a ≤ S4096x128.size a)
theorem k0_off19_inb : ∀ (v670 : BitVec 32) (k0_hw19 : k0_chk19 v670), ∀ a, (k0_off19 v670) a + S128x128.size a ≤ S4096x128.size a := fun v670 k0_hw19 => k0_hw19

def k0_off20 (v677 : BitVec 32) : Fin 2 → Nat :=
  let c128_i32_642 : BitVec 32 := 128#32
  let v678 : BitVec 32 := Scalar.muli v677 c128_i32_642
  let v679 : Index := Scalar.indexCast v678
  let c0_643 : Index := 0#32
  ![v679.toNat, 0]

def k0_chk20 (v677 : BitVec 32) : Prop :=
  (∀ a, (k0_off20 v677) a + S128x128.size a ≤ S4096x128.size a)
theorem k0_off20_inb : ∀ (v677 : BitVec 32) (k0_hw20 : k0_chk20 v677), ∀ a, (k0_off20 v677) a + S128x128.size a ≤ S4096x128.size a := fun v677 k0_hw20 => k0_hw20

def k0_dev20 (v1 : BitVec 32) : Nat :=
  let c0_i32_669 : BitVec 32 := 0#32
  let c1_i32_668 : BitVec 32 := 1#32
  let v698 : BitVec 32 := Scalar.muli v1 c1_i32_668
  let v699 : BitVec 32 := Scalar.addi c0_i32_669 v698
  v699.toNat
def k0_dev21 (v0 : BitVec 32) : Nat :=
  let c0_i32_710 : BitVec 32 := 0#32
  let c1_i32_709 : BitVec 32 := 1#32
  let v738 : BitVec 32 := Scalar.muli v0 c1_i32_709
  let v739 : BitVec 32 := Scalar.addi c0_i32_710 v738
  v739.toNat
def k0_off21 (v748 : BitVec 32) : Fin 2 → Nat :=
  let c128_i32_715 : BitVec 32 := 128#32
  let v749 : BitVec 32 := Scalar.muli v748 c128_i32_715
  let v750 : Index := Scalar.indexCast v749
  let c0_716 : Index := 0#32
  ![v750.toNat, 0]

def k0_chk21 (v748 : BitVec 32) : Prop :=
  (∀ a, (k0_off21 v748) a + S128x128.size a ≤ S4096x128.size a)
theorem k0_off21_inb : ∀ (v748 : BitVec 32) (k0_hw21 : k0_chk21 v748), ∀ a, (k0_off21 v748) a + S128x128.size a ≤ S4096x128.size a := fun v748 k0_hw21 => k0_hw21

def k0_off22 (v755 : BitVec 32) : Fin 2 → Nat :=
  let c128_i32_718 : BitVec 32 := 128#32
  let v756 : BitVec 32 := Scalar.muli v755 c128_i32_718
  let v757 : Index := Scalar.indexCast v756
  let c0_719 : Index := 0#32
  ![v757.toNat, 0]

def k0_chk22 (v755 : BitVec 32) : Prop :=
  (∀ a, (k0_off22 v755) a + S128x128.size a ≤ S4096x128.size a)
theorem k0_off22_inb : ∀ (v755 : BitVec 32) (k0_hw22 : k0_chk22 v755), ∀ a, (k0_off22 v755) a + S128x128.size a ≤ S4096x128.size a := fun v755 k0_hw22 => k0_hw22

def k0_dev22 (v1 : BitVec 32) : Nat :=
  let c0_i32_745 : BitVec 32 := 0#32
  let c1_i32_744 : BitVec 32 := 1#32
  let v776 : BitVec 32 := Scalar.muli v1 c1_i32_744
  let v777 : BitVec 32 := Scalar.addi c0_i32_745 v776
  v777.toNat
def k0_dev23 (v0 : BitVec 32) : Nat :=
  let c0_i32_786 : BitVec 32 := 0#32
  let c1_i32_785 : BitVec 32 := 1#32
  let v816 : BitVec 32 := Scalar.muli v0 c1_i32_785
  let v817 : BitVec 32 := Scalar.addi c0_i32_786 v816
  v817.toNat
def k0_off23 (v826 : BitVec 32) : Fin 2 → Nat :=
  let c128_i32_791 : BitVec 32 := 128#32
  let v827 : BitVec 32 := Scalar.muli v826 c128_i32_791
  let v828 : Index := Scalar.indexCast v827
  let c0_792 : Index := 0#32
  ![v828.toNat, 0]

def k0_chk23 (v826 : BitVec 32) : Prop :=
  (∀ a, (k0_off23 v826) a + S128x128.size a ≤ S4096x128.size a)
theorem k0_off23_inb : ∀ (v826 : BitVec 32) (k0_hw23 : k0_chk23 v826), ∀ a, (k0_off23 v826) a + S128x128.size a ≤ S4096x128.size a := fun v826 k0_hw23 => k0_hw23

def k0_off24 (v833 : BitVec 32) : Fin 2 → Nat :=
  let c128_i32_794 : BitVec 32 := 128#32
  let v834 : BitVec 32 := Scalar.muli v833 c128_i32_794
  let v835 : Index := Scalar.indexCast v834
  let c0_795 : Index := 0#32
  ![v835.toNat, 0]

def k0_chk24 (v833 : BitVec 32) : Prop :=
  (∀ a, (k0_off24 v833) a + S128x128.size a ≤ S4096x128.size a)
theorem k0_off24_inb : ∀ (v833 : BitVec 32) (k0_hw24 : k0_chk24 v833), ∀ a, (k0_off24 v833) a + S128x128.size a ≤ S4096x128.size a := fun v833 k0_hw24 => k0_hw24

def k0_dev24 (v1 : BitVec 32) : Nat :=
  let c0_i32_821 : BitVec 32 := 0#32
  let c1_i32_820 : BitVec 32 := 1#32
  let v854 : BitVec 32 := Scalar.muli v1 c1_i32_820
  let v855 : BitVec 32 := Scalar.addi c0_i32_821 v854
  v855.toNat
def k0_dev25 (v0 : BitVec 32) : Nat :=
  let c0_i32_862 : BitVec 32 := 0#32
  let c1_i32_861 : BitVec 32 := 1#32
  let v894 : BitVec 32 := Scalar.muli v0 c1_i32_861
  let v895 : BitVec 32 := Scalar.addi c0_i32_862 v894
  v895.toNat
def k0_off25 (v904 : BitVec 32) : Fin 2 → Nat :=
  let c128_i32_867 : BitVec 32 := 128#32
  let v905 : BitVec 32 := Scalar.muli v904 c128_i32_867
  let v906 : Index := Scalar.indexCast v905
  let c0_868 : Index := 0#32
  ![v906.toNat, 0]

def k0_chk25 (v904 : BitVec 32) : Prop :=
  (∀ a, (k0_off25 v904) a + S128x128.size a ≤ S4096x128.size a)
theorem k0_off25_inb : ∀ (v904 : BitVec 32) (k0_hw25 : k0_chk25 v904), ∀ a, (k0_off25 v904) a + S128x128.size a ≤ S4096x128.size a := fun v904 k0_hw25 => k0_hw25

def k0_off26 (v911 : BitVec 32) : Fin 2 → Nat :=
  let c128_i32_870 : BitVec 32 := 128#32
  let v912 : BitVec 32 := Scalar.muli v911 c128_i32_870
  let v913 : Index := Scalar.indexCast v912
  let c0_871 : Index := 0#32
  ![v913.toNat, 0]

def k0_chk26 (v911 : BitVec 32) : Prop :=
  (∀ a, (k0_off26 v911) a + S128x128.size a ≤ S4096x128.size a)
theorem k0_off26_inb : ∀ (v911 : BitVec 32) (k0_hw26 : k0_chk26 v911), ∀ a, (k0_off26 v911) a + S128x128.size a ≤ S4096x128.size a := fun v911 k0_hw26 => k0_hw26

def k0_dev26 (v1 : BitVec 32) : Nat :=
  let c0_i32_897 : BitVec 32 := 0#32
  let c1_i32_896 : BitVec 32 := 1#32
  let v932 : BitVec 32 := Scalar.muli v1 c1_i32_896
  let v933 : BitVec 32 := Scalar.addi c0_i32_897 v932
  v933.toNat
def k0_dev27 (v0 : BitVec 32) : Nat :=
  let c0_i32_938 : BitVec 32 := 0#32
  let c1_i32_937 : BitVec 32 := 1#32
  let v972 : BitVec 32 := Scalar.muli v0 c1_i32_937
  let v973 : BitVec 32 := Scalar.addi c0_i32_938 v972
  v973.toNat
def k0_off27 (v982 : BitVec 32) : Fin 2 → Nat :=
  let c128_i32_943 : BitVec 32 := 128#32
  let v983 : BitVec 32 := Scalar.muli v982 c128_i32_943
  let v984 : Index := Scalar.indexCast v983
  let c0_944 : Index := 0#32
  ![v984.toNat, 0]

def k0_chk27 (v982 : BitVec 32) : Prop :=
  (∀ a, (k0_off27 v982) a + S128x128.size a ≤ S4096x128.size a)
theorem k0_off27_inb : ∀ (v982 : BitVec 32) (k0_hw27 : k0_chk27 v982), ∀ a, (k0_off27 v982) a + S128x128.size a ≤ S4096x128.size a := fun v982 k0_hw27 => k0_hw27

def k0_off28 (v989 : BitVec 32) : Fin 2 → Nat :=
  let c128_i32_946 : BitVec 32 := 128#32
  let v990 : BitVec 32 := Scalar.muli v989 c128_i32_946
  let v991 : Index := Scalar.indexCast v990
  let c0_947 : Index := 0#32
  ![v991.toNat, 0]

def k0_chk28 (v989 : BitVec 32) : Prop :=
  (∀ a, (k0_off28 v989) a + S128x128.size a ≤ S4096x128.size a)
theorem k0_off28_inb : ∀ (v989 : BitVec 32) (k0_hw28 : k0_chk28 v989), ∀ a, (k0_off28 v989) a + S128x128.size a ≤ S4096x128.size a := fun v989 k0_hw28 => k0_hw28

def k0_dev28 (v1 : BitVec 32) : Nat :=
  let c0_i32_973 : BitVec 32 := 0#32
  let c1_i32_972 : BitVec 32 := 1#32
  let v1010 : BitVec 32 := Scalar.muli v1 c1_i32_972
  let v1011 : BitVec 32 := Scalar.addi c0_i32_973 v1010
  v1011.toNat
def k0_dev29 (v0 : BitVec 32) : Nat :=
  let c0_i32_1014 : BitVec 32 := 0#32
  let c1_i32_1013 : BitVec 32 := 1#32
  let v1050 : BitVec 32 := Scalar.muli v0 c1_i32_1013
  let v1051 : BitVec 32 := Scalar.addi c0_i32_1014 v1050
  v1051.toNat
def k0_off29 (v1060 : BitVec 32) : Fin 2 → Nat :=
  let c128_i32_1019 : BitVec 32 := 128#32
  let v1061 : BitVec 32 := Scalar.muli v1060 c128_i32_1019
  let v1062 : Index := Scalar.indexCast v1061
  let c0_1020 : Index := 0#32
  ![v1062.toNat, 0]

def k0_chk29 (v1060 : BitVec 32) : Prop :=
  (∀ a, (k0_off29 v1060) a + S128x128.size a ≤ S4096x128.size a)
theorem k0_off29_inb : ∀ (v1060 : BitVec 32) (k0_hw29 : k0_chk29 v1060), ∀ a, (k0_off29 v1060) a + S128x128.size a ≤ S4096x128.size a := fun v1060 k0_hw29 => k0_hw29

def k0_off30 (v1067 : BitVec 32) : Fin 2 → Nat :=
  let c128_i32_1022 : BitVec 32 := 128#32
  let v1068 : BitVec 32 := Scalar.muli v1067 c128_i32_1022
  let v1069 : Index := Scalar.indexCast v1068
  let c0_1023 : Index := 0#32
  ![v1069.toNat, 0]

def k0_chk30 (v1067 : BitVec 32) : Prop :=
  (∀ a, (k0_off30 v1067) a + S128x128.size a ≤ S4096x128.size a)
theorem k0_off30_inb : ∀ (v1067 : BitVec 32) (k0_hw30 : k0_chk30 v1067), ∀ a, (k0_off30 v1067) a + S128x128.size a ≤ S4096x128.size a := fun v1067 k0_hw30 => k0_hw30

def k0_dev30 (v1 : BitVec 32) : Nat :=
  let c0_i32_1049 : BitVec 32 := 0#32
  let c1_i32_1048 : BitVec 32 := 1#32
  let v1088 : BitVec 32 := Scalar.muli v1 c1_i32_1048
  let v1089 : BitVec 32 := Scalar.addi c0_i32_1049 v1088
  v1089.toNat
def k0_dev31 (v0 : BitVec 32) : Nat :=
  let c0_i32_1090 : BitVec 32 := 0#32
  let c1_i32_1089 : BitVec 32 := 1#32
  let v1128 : BitVec 32 := Scalar.muli v0 c1_i32_1089
  let v1129 : BitVec 32 := Scalar.addi c0_i32_1090 v1128
  v1129.toNat
def k0_off31 (v1138 : BitVec 32) : Fin 2 → Nat :=
  let c128_i32_1095 : BitVec 32 := 128#32
  let v1139 : BitVec 32 := Scalar.muli v1138 c128_i32_1095
  let v1140 : Index := Scalar.indexCast v1139
  let c0_1096 : Index := 0#32
  ![v1140.toNat, 0]

def k0_chk31 (v1138 : BitVec 32) : Prop :=
  (∀ a, (k0_off31 v1138) a + S128x128.size a ≤ S4096x128.size a)
theorem k0_off31_inb : ∀ (v1138 : BitVec 32) (k0_hw31 : k0_chk31 v1138), ∀ a, (k0_off31 v1138) a + S128x128.size a ≤ S4096x128.size a := fun v1138 k0_hw31 => k0_hw31

def k0_off32 (v1145 : BitVec 32) : Fin 2 → Nat :=
  let c128_i32_1098 : BitVec 32 := 128#32
  let v1146 : BitVec 32 := Scalar.muli v1145 c128_i32_1098
  let v1147 : Index := Scalar.indexCast v1146
  let c0_1099 : Index := 0#32
  ![v1147.toNat, 0]

def k0_chk32 (v1145 : BitVec 32) : Prop :=
  (∀ a, (k0_off32 v1145) a + S128x128.size a ≤ S4096x128.size a)
theorem k0_off32_inb : ∀ (v1145 : BitVec 32) (k0_hw32 : k0_chk32 v1145), ∀ a, (k0_off32 v1145) a + S128x128.size a ≤ S4096x128.size a := fun v1145 k0_hw32 => k0_hw32

def k0_dev32 (v1 : BitVec 32) : Nat :=
  let c0_i32_1125 : BitVec 32 := 0#32
  let c1_i32_1124 : BitVec 32 := 1#32
  let v1166 : BitVec 32 := Scalar.muli v1 c1_i32_1124
  let v1167 : BitVec 32 := Scalar.addi c0_i32_1125 v1166
  v1167.toNat
def k0_dev33 (v0 : BitVec 32) : Nat :=
  let c0_i32_1166 : BitVec 32 := 0#32
  let c1_i32_1165 : BitVec 32 := 1#32
  let v1206 : BitVec 32 := Scalar.muli v0 c1_i32_1165
  let v1207 : BitVec 32 := Scalar.addi c0_i32_1166 v1206
  v1207.toNat
def k0_off33 (v1216 : BitVec 32) : Fin 2 → Nat :=
  let c128_i32_1171 : BitVec 32 := 128#32
  let v1217 : BitVec 32 := Scalar.muli v1216 c128_i32_1171
  let v1218 : Index := Scalar.indexCast v1217
  let c0_1172 : Index := 0#32
  ![v1218.toNat, 0]

def k0_chk33 (v1216 : BitVec 32) : Prop :=
  (∀ a, (k0_off33 v1216) a + S128x128.size a ≤ S4096x128.size a)
theorem k0_off33_inb : ∀ (v1216 : BitVec 32) (k0_hw33 : k0_chk33 v1216), ∀ a, (k0_off33 v1216) a + S128x128.size a ≤ S4096x128.size a := fun v1216 k0_hw33 => k0_hw33

def k0_off34 (v1223 : BitVec 32) : Fin 2 → Nat :=
  let c128_i32_1174 : BitVec 32 := 128#32
  let v1224 : BitVec 32 := Scalar.muli v1223 c128_i32_1174
  let v1225 : Index := Scalar.indexCast v1224
  let c0_1175 : Index := 0#32
  ![v1225.toNat, 0]

def k0_chk34 (v1223 : BitVec 32) : Prop :=
  (∀ a, (k0_off34 v1223) a + S128x128.size a ≤ S4096x128.size a)
theorem k0_off34_inb : ∀ (v1223 : BitVec 32) (k0_hw34 : k0_chk34 v1223), ∀ a, (k0_off34 v1223) a + S128x128.size a ≤ S4096x128.size a := fun v1223 k0_hw34 => k0_hw34

def k0_dev34 (v1 : BitVec 32) : Nat :=
  let c0_i32_1201 : BitVec 32 := 0#32
  let c1_i32_1200 : BitVec 32 := 1#32
  let v1244 : BitVec 32 := Scalar.muli v1 c1_i32_1200
  let v1245 : BitVec 32 := Scalar.addi c0_i32_1201 v1244
  v1245.toNat
def k0_dev35 (v0 : BitVec 32) : Nat :=
  let c0_i32_1242 : BitVec 32 := 0#32
  let c1_i32_1241 : BitVec 32 := 1#32
  let v1284 : BitVec 32 := Scalar.muli v0 c1_i32_1241
  let v1285 : BitVec 32 := Scalar.addi c0_i32_1242 v1284
  v1285.toNat
def k0_off35 (v1294 : BitVec 32) : Fin 2 → Nat :=
  let c128_i32_1247 : BitVec 32 := 128#32
  let v1295 : BitVec 32 := Scalar.muli v1294 c128_i32_1247
  let v1296 : Index := Scalar.indexCast v1295
  let c0_1248 : Index := 0#32
  ![v1296.toNat, 0]

def k0_chk35 (v1294 : BitVec 32) : Prop :=
  (∀ a, (k0_off35 v1294) a + S128x128.size a ≤ S4096x128.size a)
theorem k0_off35_inb : ∀ (v1294 : BitVec 32) (k0_hw35 : k0_chk35 v1294), ∀ a, (k0_off35 v1294) a + S128x128.size a ≤ S4096x128.size a := fun v1294 k0_hw35 => k0_hw35

def k0_off36 (v1301 : BitVec 32) : Fin 2 → Nat :=
  let c128_i32_1250 : BitVec 32 := 128#32
  let v1302 : BitVec 32 := Scalar.muli v1301 c128_i32_1250
  let v1303 : Index := Scalar.indexCast v1302
  let c0_1251 : Index := 0#32
  ![v1303.toNat, 0]

def k0_chk36 (v1301 : BitVec 32) : Prop :=
  (∀ a, (k0_off36 v1301) a + S128x128.size a ≤ S4096x128.size a)
theorem k0_off36_inb : ∀ (v1301 : BitVec 32) (k0_hw36 : k0_chk36 v1301), ∀ a, (k0_off36 v1301) a + S128x128.size a ≤ S4096x128.size a := fun v1301 k0_hw36 => k0_hw36

def k0_dev36 (v1 : BitVec 32) : Nat :=
  let c0_i32_1277 : BitVec 32 := 0#32
  let c1_i32_1276 : BitVec 32 := 1#32
  let v1322 : BitVec 32 := Scalar.muli v1 c1_i32_1276
  let v1323 : BitVec 32 := Scalar.addi c0_i32_1277 v1322
  v1323.toNat
def k0_dev37 (v0 : BitVec 32) : Nat :=
  let c0_i32_1318 : BitVec 32 := 0#32
  let c1_i32_1317 : BitVec 32 := 1#32
  let v1362 : BitVec 32 := Scalar.muli v0 c1_i32_1317
  let v1363 : BitVec 32 := Scalar.addi c0_i32_1318 v1362
  v1363.toNat
def k0_off37 (v1372 : BitVec 32) : Fin 2 → Nat :=
  let c128_i32_1323 : BitVec 32 := 128#32
  let v1373 : BitVec 32 := Scalar.muli v1372 c128_i32_1323
  let v1374 : Index := Scalar.indexCast v1373
  let c0_1324 : Index := 0#32
  ![v1374.toNat, 0]

def k0_chk37 (v1372 : BitVec 32) : Prop :=
  (∀ a, (k0_off37 v1372) a + S128x128.size a ≤ S4096x128.size a)
theorem k0_off37_inb : ∀ (v1372 : BitVec 32) (k0_hw37 : k0_chk37 v1372), ∀ a, (k0_off37 v1372) a + S128x128.size a ≤ S4096x128.size a := fun v1372 k0_hw37 => k0_hw37

def k0_off38 (v1379 : BitVec 32) : Fin 2 → Nat :=
  let c128_i32_1326 : BitVec 32 := 128#32
  let v1380 : BitVec 32 := Scalar.muli v1379 c128_i32_1326
  let v1381 : Index := Scalar.indexCast v1380
  let c0_1327 : Index := 0#32
  ![v1381.toNat, 0]

def k0_chk38 (v1379 : BitVec 32) : Prop :=
  (∀ a, (k0_off38 v1379) a + S128x128.size a ≤ S4096x128.size a)
theorem k0_off38_inb : ∀ (v1379 : BitVec 32) (k0_hw38 : k0_chk38 v1379), ∀ a, (k0_off38 v1379) a + S128x128.size a ≤ S4096x128.size a := fun v1379 k0_hw38 => k0_hw38

def k0_dev38 (v1 : BitVec 32) : Nat :=
  let c0_i32_1353 : BitVec 32 := 0#32
  let c1_i32_1352 : BitVec 32 := 1#32
  let v1400 : BitVec 32 := Scalar.muli v1 c1_i32_1352
  let v1401 : BitVec 32 := Scalar.addi c0_i32_1353 v1400
  v1401.toNat
def k0_dev39 (v0 : BitVec 32) : Nat :=
  let c0_i32_1394 : BitVec 32 := 0#32
  let c1_i32_1393 : BitVec 32 := 1#32
  let v1440 : BitVec 32 := Scalar.muli v0 c1_i32_1393
  let v1441 : BitVec 32 := Scalar.addi c0_i32_1394 v1440
  v1441.toNat
def k0_off39 (v1450 : BitVec 32) : Fin 2 → Nat :=
  let c128_i32_1399 : BitVec 32 := 128#32
  let v1451 : BitVec 32 := Scalar.muli v1450 c128_i32_1399
  let v1452 : Index := Scalar.indexCast v1451
  let c0_1400 : Index := 0#32
  ![v1452.toNat, 0]

def k0_chk39 (v1450 : BitVec 32) : Prop :=
  (∀ a, (k0_off39 v1450) a + S128x128.size a ≤ S4096x128.size a)
theorem k0_off39_inb : ∀ (v1450 : BitVec 32) (k0_hw39 : k0_chk39 v1450), ∀ a, (k0_off39 v1450) a + S128x128.size a ≤ S4096x128.size a := fun v1450 k0_hw39 => k0_hw39

def k0_off40 (v1457 : BitVec 32) : Fin 2 → Nat :=
  let c128_i32_1402 : BitVec 32 := 128#32
  let v1458 : BitVec 32 := Scalar.muli v1457 c128_i32_1402
  let v1459 : Index := Scalar.indexCast v1458
  let c0_1403 : Index := 0#32
  ![v1459.toNat, 0]

def k0_chk40 (v1457 : BitVec 32) : Prop :=
  (∀ a, (k0_off40 v1457) a + S128x128.size a ≤ S4096x128.size a)
theorem k0_off40_inb : ∀ (v1457 : BitVec 32) (k0_hw40 : k0_chk40 v1457), ∀ a, (k0_off40 v1457) a + S128x128.size a ≤ S4096x128.size a := fun v1457 k0_hw40 => k0_hw40

def k0_dev40 (v1 : BitVec 32) : Nat :=
  let c0_i32_1429 : BitVec 32 := 0#32
  let c1_i32_1428 : BitVec 32 := 1#32
  let v1478 : BitVec 32 := Scalar.muli v1 c1_i32_1428
  let v1479 : BitVec 32 := Scalar.addi c0_i32_1429 v1478
  v1479.toNat
def k0_dev41 (v0 : BitVec 32) : Nat :=
  let c0_i32_1470 : BitVec 32 := 0#32
  let c1_i32_1469 : BitVec 32 := 1#32
  let v1518 : BitVec 32 := Scalar.muli v0 c1_i32_1469
  let v1519 : BitVec 32 := Scalar.addi c0_i32_1470 v1518
  v1519.toNat
def k0_off41 (v1528 : BitVec 32) : Fin 2 → Nat :=
  let c128_i32_1475 : BitVec 32 := 128#32
  let v1529 : BitVec 32 := Scalar.muli v1528 c128_i32_1475
  let v1530 : Index := Scalar.indexCast v1529
  let c0_1476 : Index := 0#32
  ![v1530.toNat, 0]

def k0_chk41 (v1528 : BitVec 32) : Prop :=
  (∀ a, (k0_off41 v1528) a + S128x128.size a ≤ S4096x128.size a)
theorem k0_off41_inb : ∀ (v1528 : BitVec 32) (k0_hw41 : k0_chk41 v1528), ∀ a, (k0_off41 v1528) a + S128x128.size a ≤ S4096x128.size a := fun v1528 k0_hw41 => k0_hw41

def k0_off42 (v1535 : BitVec 32) : Fin 2 → Nat :=
  let c128_i32_1478 : BitVec 32 := 128#32
  let v1536 : BitVec 32 := Scalar.muli v1535 c128_i32_1478
  let v1537 : Index := Scalar.indexCast v1536
  let c0_1479 : Index := 0#32
  ![v1537.toNat, 0]

def k0_chk42 (v1535 : BitVec 32) : Prop :=
  (∀ a, (k0_off42 v1535) a + S128x128.size a ≤ S4096x128.size a)
theorem k0_off42_inb : ∀ (v1535 : BitVec 32) (k0_hw42 : k0_chk42 v1535), ∀ a, (k0_off42 v1535) a + S128x128.size a ≤ S4096x128.size a := fun v1535 k0_hw42 => k0_hw42

def k0_dev42 (v1 : BitVec 32) : Nat :=
  let c0_i32_1505 : BitVec 32 := 0#32
  let c1_i32_1504 : BitVec 32 := 1#32
  let v1556 : BitVec 32 := Scalar.muli v1 c1_i32_1504
  let v1557 : BitVec 32 := Scalar.addi c0_i32_1505 v1556
  v1557.toNat
def k0_dev43 (v0 : BitVec 32) : Nat :=
  let c0_i32_1546 : BitVec 32 := 0#32
  let c1_i32_1545 : BitVec 32 := 1#32
  let v1596 : BitVec 32 := Scalar.muli v0 c1_i32_1545
  let v1597 : BitVec 32 := Scalar.addi c0_i32_1546 v1596
  v1597.toNat
def k0_off43 (v1606 : BitVec 32) : Fin 2 → Nat :=
  let c128_i32_1551 : BitVec 32 := 128#32
  let v1607 : BitVec 32 := Scalar.muli v1606 c128_i32_1551
  let v1608 : Index := Scalar.indexCast v1607
  let c0_1552 : Index := 0#32
  ![v1608.toNat, 0]

def k0_chk43 (v1606 : BitVec 32) : Prop :=
  (∀ a, (k0_off43 v1606) a + S128x128.size a ≤ S4096x128.size a)
theorem k0_off43_inb : ∀ (v1606 : BitVec 32) (k0_hw43 : k0_chk43 v1606), ∀ a, (k0_off43 v1606) a + S128x128.size a ≤ S4096x128.size a := fun v1606 k0_hw43 => k0_hw43

def k0_off44 (v1613 : BitVec 32) : Fin 2 → Nat :=
  let c128_i32_1554 : BitVec 32 := 128#32
  let v1614 : BitVec 32 := Scalar.muli v1613 c128_i32_1554
  let v1615 : Index := Scalar.indexCast v1614
  let c0_1555 : Index := 0#32
  ![v1615.toNat, 0]

def k0_chk44 (v1613 : BitVec 32) : Prop :=
  (∀ a, (k0_off44 v1613) a + S128x128.size a ≤ S4096x128.size a)
theorem k0_off44_inb : ∀ (v1613 : BitVec 32) (k0_hw44 : k0_chk44 v1613), ∀ a, (k0_off44 v1613) a + S128x128.size a ≤ S4096x128.size a := fun v1613 k0_hw44 => k0_hw44

def k0_dev44 (v1 : BitVec 32) : Nat :=
  let c0_i32_1581 : BitVec 32 := 0#32
  let c1_i32_1580 : BitVec 32 := 1#32
  let v1634 : BitVec 32 := Scalar.muli v1 c1_i32_1580
  let v1635 : BitVec 32 := Scalar.addi c0_i32_1581 v1634
  v1635.toNat
def k0_dev45 (v0 : BitVec 32) : Nat :=
  let c0_i32_1622 : BitVec 32 := 0#32
  let c1_i32_1621 : BitVec 32 := 1#32
  let v1674 : BitVec 32 := Scalar.muli v0 c1_i32_1621
  let v1675 : BitVec 32 := Scalar.addi c0_i32_1622 v1674
  v1675.toNat
def k0_off45 (v1684 : BitVec 32) : Fin 2 → Nat :=
  let c128_i32_1627 : BitVec 32 := 128#32
  let v1685 : BitVec 32 := Scalar.muli v1684 c128_i32_1627
  let v1686 : Index := Scalar.indexCast v1685
  let c0_1628 : Index := 0#32
  ![v1686.toNat, 0]

def k0_chk45 (v1684 : BitVec 32) : Prop :=
  (∀ a, (k0_off45 v1684) a + S128x128.size a ≤ S4096x128.size a)
theorem k0_off45_inb : ∀ (v1684 : BitVec 32) (k0_hw45 : k0_chk45 v1684), ∀ a, (k0_off45 v1684) a + S128x128.size a ≤ S4096x128.size a := fun v1684 k0_hw45 => k0_hw45

def k0_off46 (v1691 : BitVec 32) : Fin 2 → Nat :=
  let c128_i32_1630 : BitVec 32 := 128#32
  let v1692 : BitVec 32 := Scalar.muli v1691 c128_i32_1630
  let v1693 : Index := Scalar.indexCast v1692
  let c0_1631 : Index := 0#32
  ![v1693.toNat, 0]

def k0_chk46 (v1691 : BitVec 32) : Prop :=
  (∀ a, (k0_off46 v1691) a + S128x128.size a ≤ S4096x128.size a)
theorem k0_off46_inb : ∀ (v1691 : BitVec 32) (k0_hw46 : k0_chk46 v1691), ∀ a, (k0_off46 v1691) a + S128x128.size a ≤ S4096x128.size a := fun v1691 k0_hw46 => k0_hw46

def k0_dev46 (v1 : BitVec 32) : Nat :=
  let c0_i32_1657 : BitVec 32 := 0#32
  let c1_i32_1656 : BitVec 32 := 1#32
  let v1712 : BitVec 32 := Scalar.muli v1 c1_i32_1656
  let v1713 : BitVec 32 := Scalar.addi c0_i32_1657 v1712
  v1713.toNat
def k0_dev47 (v0 : BitVec 32) : Nat :=
  let c0_i32_1698 : BitVec 32 := 0#32
  let c1_i32_1697 : BitVec 32 := 1#32
  let v1752 : BitVec 32 := Scalar.muli v0 c1_i32_1697
  let v1753 : BitVec 32 := Scalar.addi c0_i32_1698 v1752
  v1753.toNat
def k0_off47 (v1762 : BitVec 32) : Fin 2 → Nat :=
  let c128_i32_1703 : BitVec 32 := 128#32
  let v1763 : BitVec 32 := Scalar.muli v1762 c128_i32_1703
  let v1764 : Index := Scalar.indexCast v1763
  let c0_1704 : Index := 0#32
  ![v1764.toNat, 0]

def k0_chk47 (v1762 : BitVec 32) : Prop :=
  (∀ a, (k0_off47 v1762) a + S128x128.size a ≤ S4096x128.size a)
theorem k0_off47_inb : ∀ (v1762 : BitVec 32) (k0_hw47 : k0_chk47 v1762), ∀ a, (k0_off47 v1762) a + S128x128.size a ≤ S4096x128.size a := fun v1762 k0_hw47 => k0_hw47

def k0_off48 (v1769 : BitVec 32) : Fin 2 → Nat :=
  let c128_i32_1706 : BitVec 32 := 128#32
  let v1770 : BitVec 32 := Scalar.muli v1769 c128_i32_1706
  let v1771 : Index := Scalar.indexCast v1770
  let c0_1707 : Index := 0#32
  ![v1771.toNat, 0]

def k0_chk48 (v1769 : BitVec 32) : Prop :=
  (∀ a, (k0_off48 v1769) a + S128x128.size a ≤ S4096x128.size a)
theorem k0_off48_inb : ∀ (v1769 : BitVec 32) (k0_hw48 : k0_chk48 v1769), ∀ a, (k0_off48 v1769) a + S128x128.size a ≤ S4096x128.size a := fun v1769 k0_hw48 => k0_hw48

def k0_dev48 (v1 : BitVec 32) : Nat :=
  let c0_i32_1733 : BitVec 32 := 0#32
  let c1_i32_1732 : BitVec 32 := 1#32
  let v1790 : BitVec 32 := Scalar.muli v1 c1_i32_1732
  let v1791 : BitVec 32 := Scalar.addi c0_i32_1733 v1790
  v1791.toNat
def k0_dev49 (v0 : BitVec 32) : Nat :=
  let c0_i32_1774 : BitVec 32 := 0#32
  let c1_i32_1773 : BitVec 32 := 1#32
  let v1830 : BitVec 32 := Scalar.muli v0 c1_i32_1773
  let v1831 : BitVec 32 := Scalar.addi c0_i32_1774 v1830
  v1831.toNat
def k0_off49 (v1840 : BitVec 32) : Fin 2 → Nat :=
  let c128_i32_1779 : BitVec 32 := 128#32
  let v1841 : BitVec 32 := Scalar.muli v1840 c128_i32_1779
  let v1842 : Index := Scalar.indexCast v1841
  let c0_1780 : Index := 0#32
  ![v1842.toNat, 0]

def k0_chk49 (v1840 : BitVec 32) : Prop :=
  (∀ a, (k0_off49 v1840) a + S128x128.size a ≤ S4096x128.size a)
theorem k0_off49_inb : ∀ (v1840 : BitVec 32) (k0_hw49 : k0_chk49 v1840), ∀ a, (k0_off49 v1840) a + S128x128.size a ≤ S4096x128.size a := fun v1840 k0_hw49 => k0_hw49

def k0_off50 (v1847 : BitVec 32) : Fin 2 → Nat :=
  let c128_i32_1782 : BitVec 32 := 128#32
  let v1848 : BitVec 32 := Scalar.muli v1847 c128_i32_1782
  let v1849 : Index := Scalar.indexCast v1848
  let c0_1783 : Index := 0#32
  ![v1849.toNat, 0]

def k0_chk50 (v1847 : BitVec 32) : Prop :=
  (∀ a, (k0_off50 v1847) a + S128x128.size a ≤ S4096x128.size a)
theorem k0_off50_inb : ∀ (v1847 : BitVec 32) (k0_hw50 : k0_chk50 v1847), ∀ a, (k0_off50 v1847) a + S128x128.size a ≤ S4096x128.size a := fun v1847 k0_hw50 => k0_hw50

def k0_dev50 (v1 : BitVec 32) : Nat :=
  let c0_i32_1809 : BitVec 32 := 0#32
  let c1_i32_1808 : BitVec 32 := 1#32
  let v1868 : BitVec 32 := Scalar.muli v1 c1_i32_1808
  let v1869 : BitVec 32 := Scalar.addi c0_i32_1809 v1868
  v1869.toNat
def k0_dev51 (v0 : BitVec 32) : Nat :=
  let c0_i32_1850 : BitVec 32 := 0#32
  let c1_i32_1849 : BitVec 32 := 1#32
  let v1908 : BitVec 32 := Scalar.muli v0 c1_i32_1849
  let v1909 : BitVec 32 := Scalar.addi c0_i32_1850 v1908
  v1909.toNat
def k0_off51 (v1918 : BitVec 32) : Fin 2 → Nat :=
  let c128_i32_1855 : BitVec 32 := 128#32
  let v1919 : BitVec 32 := Scalar.muli v1918 c128_i32_1855
  let v1920 : Index := Scalar.indexCast v1919
  let c0_1856 : Index := 0#32
  ![v1920.toNat, 0]

def k0_chk51 (v1918 : BitVec 32) : Prop :=
  (∀ a, (k0_off51 v1918) a + S128x128.size a ≤ S4096x128.size a)
theorem k0_off51_inb : ∀ (v1918 : BitVec 32) (k0_hw51 : k0_chk51 v1918), ∀ a, (k0_off51 v1918) a + S128x128.size a ≤ S4096x128.size a := fun v1918 k0_hw51 => k0_hw51

def k0_off52 (v1925 : BitVec 32) : Fin 2 → Nat :=
  let c128_i32_1858 : BitVec 32 := 128#32
  let v1926 : BitVec 32 := Scalar.muli v1925 c128_i32_1858
  let v1927 : Index := Scalar.indexCast v1926
  let c0_1859 : Index := 0#32
  ![v1927.toNat, 0]

def k0_chk52 (v1925 : BitVec 32) : Prop :=
  (∀ a, (k0_off52 v1925) a + S128x128.size a ≤ S4096x128.size a)
theorem k0_off52_inb : ∀ (v1925 : BitVec 32) (k0_hw52 : k0_chk52 v1925), ∀ a, (k0_off52 v1925) a + S128x128.size a ≤ S4096x128.size a := fun v1925 k0_hw52 => k0_hw52

def k0_dev52 (v1 : BitVec 32) : Nat :=
  let c0_i32_1885 : BitVec 32 := 0#32
  let c1_i32_1884 : BitVec 32 := 1#32
  let v1946 : BitVec 32 := Scalar.muli v1 c1_i32_1884
  let v1947 : BitVec 32 := Scalar.addi c0_i32_1885 v1946
  v1947.toNat
def k0_dev53 (v0 : BitVec 32) : Nat :=
  let c0_i32_1926 : BitVec 32 := 0#32
  let c1_i32_1925 : BitVec 32 := 1#32
  let v1986 : BitVec 32 := Scalar.muli v0 c1_i32_1925
  let v1987 : BitVec 32 := Scalar.addi c0_i32_1926 v1986
  v1987.toNat
def k0_off53 (v1996 : BitVec 32) : Fin 2 → Nat :=
  let c128_i32_1931 : BitVec 32 := 128#32
  let v1997 : BitVec 32 := Scalar.muli v1996 c128_i32_1931
  let v1998 : Index := Scalar.indexCast v1997
  let c0_1932 : Index := 0#32
  ![v1998.toNat, 0]

def k0_chk53 (v1996 : BitVec 32) : Prop :=
  (∀ a, (k0_off53 v1996) a + S128x128.size a ≤ S4096x128.size a)
theorem k0_off53_inb : ∀ (v1996 : BitVec 32) (k0_hw53 : k0_chk53 v1996), ∀ a, (k0_off53 v1996) a + S128x128.size a ≤ S4096x128.size a := fun v1996 k0_hw53 => k0_hw53

def k0_off54 (v2003 : BitVec 32) : Fin 2 → Nat :=
  let c128_i32_1934 : BitVec 32 := 128#32
  let v2004 : BitVec 32 := Scalar.muli v2003 c128_i32_1934
  let v2005 : Index := Scalar.indexCast v2004
  let c0_1935 : Index := 0#32
  ![v2005.toNat, 0]

def k0_chk54 (v2003 : BitVec 32) : Prop :=
  (∀ a, (k0_off54 v2003) a + S128x128.size a ≤ S4096x128.size a)
theorem k0_off54_inb : ∀ (v2003 : BitVec 32) (k0_hw54 : k0_chk54 v2003), ∀ a, (k0_off54 v2003) a + S128x128.size a ≤ S4096x128.size a := fun v2003 k0_hw54 => k0_hw54

def k0_dev54 (v1 : BitVec 32) : Nat :=
  let c0_i32_1961 : BitVec 32 := 0#32
  let c1_i32_1960 : BitVec 32 := 1#32
  let v2024 : BitVec 32 := Scalar.muli v1 c1_i32_1960
  let v2025 : BitVec 32 := Scalar.addi c0_i32_1961 v2024
  v2025.toNat
def k0_dev55 (v0 : BitVec 32) : Nat :=
  let c0_i32_2002 : BitVec 32 := 0#32
  let c1_i32_2001 : BitVec 32 := 1#32
  let v2064 : BitVec 32 := Scalar.muli v0 c1_i32_2001
  let v2065 : BitVec 32 := Scalar.addi c0_i32_2002 v2064
  v2065.toNat
def k0_off55 (v2074 : BitVec 32) : Fin 2 → Nat :=
  let c128_i32_2007 : BitVec 32 := 128#32
  let v2075 : BitVec 32 := Scalar.muli v2074 c128_i32_2007
  let v2076 : Index := Scalar.indexCast v2075
  let c0_2008 : Index := 0#32
  ![v2076.toNat, 0]

def k0_chk55 (v2074 : BitVec 32) : Prop :=
  (∀ a, (k0_off55 v2074) a + S128x128.size a ≤ S4096x128.size a)
theorem k0_off55_inb : ∀ (v2074 : BitVec 32) (k0_hw55 : k0_chk55 v2074), ∀ a, (k0_off55 v2074) a + S128x128.size a ≤ S4096x128.size a := fun v2074 k0_hw55 => k0_hw55

def k0_off56 (v2081 : BitVec 32) : Fin 2 → Nat :=
  let c128_i32_2010 : BitVec 32 := 128#32
  let v2082 : BitVec 32 := Scalar.muli v2081 c128_i32_2010
  let v2083 : Index := Scalar.indexCast v2082
  let c0_2011 : Index := 0#32
  ![v2083.toNat, 0]

def k0_chk56 (v2081 : BitVec 32) : Prop :=
  (∀ a, (k0_off56 v2081) a + S128x128.size a ≤ S4096x128.size a)
theorem k0_off56_inb : ∀ (v2081 : BitVec 32) (k0_hw56 : k0_chk56 v2081), ∀ a, (k0_off56 v2081) a + S128x128.size a ≤ S4096x128.size a := fun v2081 k0_hw56 => k0_hw56

def k0_dev56 (v1 : BitVec 32) : Nat :=
  let c0_i32_2037 : BitVec 32 := 0#32
  let c1_i32_2036 : BitVec 32 := 1#32
  let v2102 : BitVec 32 := Scalar.muli v1 c1_i32_2036
  let v2103 : BitVec 32 := Scalar.addi c0_i32_2037 v2102
  v2103.toNat
def k0_dev57 (v0 : BitVec 32) : Nat :=
  let c0_i32_2078 : BitVec 32 := 0#32
  let c1_i32_2077 : BitVec 32 := 1#32
  let v2142 : BitVec 32 := Scalar.muli v0 c1_i32_2077
  let v2143 : BitVec 32 := Scalar.addi c0_i32_2078 v2142
  v2143.toNat
def k0_off57 (v2152 : BitVec 32) : Fin 2 → Nat :=
  let c128_i32_2083 : BitVec 32 := 128#32
  let v2153 : BitVec 32 := Scalar.muli v2152 c128_i32_2083
  let v2154 : Index := Scalar.indexCast v2153
  let c0_2084 : Index := 0#32
  ![v2154.toNat, 0]

def k0_chk57 (v2152 : BitVec 32) : Prop :=
  (∀ a, (k0_off57 v2152) a + S128x128.size a ≤ S4096x128.size a)
theorem k0_off57_inb : ∀ (v2152 : BitVec 32) (k0_hw57 : k0_chk57 v2152), ∀ a, (k0_off57 v2152) a + S128x128.size a ≤ S4096x128.size a := fun v2152 k0_hw57 => k0_hw57

def k0_off58 (v2159 : BitVec 32) : Fin 2 → Nat :=
  let c128_i32_2086 : BitVec 32 := 128#32
  let v2160 : BitVec 32 := Scalar.muli v2159 c128_i32_2086
  let v2161 : Index := Scalar.indexCast v2160
  let c0_2087 : Index := 0#32
  ![v2161.toNat, 0]

def k0_chk58 (v2159 : BitVec 32) : Prop :=
  (∀ a, (k0_off58 v2159) a + S128x128.size a ≤ S4096x128.size a)
theorem k0_off58_inb : ∀ (v2159 : BitVec 32) (k0_hw58 : k0_chk58 v2159), ∀ a, (k0_off58 v2159) a + S128x128.size a ≤ S4096x128.size a := fun v2159 k0_hw58 => k0_hw58

def k0_dev58 (v1 : BitVec 32) : Nat :=
  let c0_i32_2113 : BitVec 32 := 0#32
  let c1_i32_2112 : BitVec 32 := 1#32
  let v2180 : BitVec 32 := Scalar.muli v1 c1_i32_2112
  let v2181 : BitVec 32 := Scalar.addi c0_i32_2113 v2180
  v2181.toNat
def k0_dev59 (v0 : BitVec 32) : Nat :=
  let c0_i32_2154 : BitVec 32 := 0#32
  let c1_i32_2153 : BitVec 32 := 1#32
  let v2220 : BitVec 32 := Scalar.muli v0 c1_i32_2153
  let v2221 : BitVec 32 := Scalar.addi c0_i32_2154 v2220
  v2221.toNat
def k0_off59 (v2230 : BitVec 32) : Fin 2 → Nat :=
  let c128_i32_2159 : BitVec 32 := 128#32
  let v2231 : BitVec 32 := Scalar.muli v2230 c128_i32_2159
  let v2232 : Index := Scalar.indexCast v2231
  let c0_2160 : Index := 0#32
  ![v2232.toNat, 0]

def k0_chk59 (v2230 : BitVec 32) : Prop :=
  (∀ a, (k0_off59 v2230) a + S128x128.size a ≤ S4096x128.size a)
theorem k0_off59_inb : ∀ (v2230 : BitVec 32) (k0_hw59 : k0_chk59 v2230), ∀ a, (k0_off59 v2230) a + S128x128.size a ≤ S4096x128.size a := fun v2230 k0_hw59 => k0_hw59

def k0_off60 (v2237 : BitVec 32) : Fin 2 → Nat :=
  let c128_i32_2162 : BitVec 32 := 128#32
  let v2238 : BitVec 32 := Scalar.muli v2237 c128_i32_2162
  let v2239 : Index := Scalar.indexCast v2238
  let c0_2163 : Index := 0#32
  ![v2239.toNat, 0]

def k0_chk60 (v2237 : BitVec 32) : Prop :=
  (∀ a, (k0_off60 v2237) a + S128x128.size a ≤ S4096x128.size a)
theorem k0_off60_inb : ∀ (v2237 : BitVec 32) (k0_hw60 : k0_chk60 v2237), ∀ a, (k0_off60 v2237) a + S128x128.size a ≤ S4096x128.size a := fun v2237 k0_hw60 => k0_hw60

def k0_dev60 (v1 : BitVec 32) : Nat :=
  let c0_i32_2189 : BitVec 32 := 0#32
  let c1_i32_2188 : BitVec 32 := 1#32
  let v2258 : BitVec 32 := Scalar.muli v1 c1_i32_2188
  let v2259 : BitVec 32 := Scalar.addi c0_i32_2189 v2258
  v2259.toNat
def k0_dev61 (v0 : BitVec 32) : Nat :=
  let c0_i32_2230 : BitVec 32 := 0#32
  let c1_i32_2229 : BitVec 32 := 1#32
  let v2298 : BitVec 32 := Scalar.muli v0 c1_i32_2229
  let v2299 : BitVec 32 := Scalar.addi c0_i32_2230 v2298
  v2299.toNat
def k0_off61 (v2308 : BitVec 32) : Fin 2 → Nat :=
  let c128_i32_2235 : BitVec 32 := 128#32
  let v2309 : BitVec 32 := Scalar.muli v2308 c128_i32_2235
  let v2310 : Index := Scalar.indexCast v2309
  let c0_2236 : Index := 0#32
  ![v2310.toNat, 0]

def k0_chk61 (v2308 : BitVec 32) : Prop :=
  (∀ a, (k0_off61 v2308) a + S128x128.size a ≤ S4096x128.size a)
theorem k0_off61_inb : ∀ (v2308 : BitVec 32) (k0_hw61 : k0_chk61 v2308), ∀ a, (k0_off61 v2308) a + S128x128.size a ≤ S4096x128.size a := fun v2308 k0_hw61 => k0_hw61

def k0_off62 (v2315 : BitVec 32) : Fin 2 → Nat :=
  let c128_i32_2238 : BitVec 32 := 128#32
  let v2316 : BitVec 32 := Scalar.muli v2315 c128_i32_2238
  let v2317 : Index := Scalar.indexCast v2316
  let c0_2239 : Index := 0#32
  ![v2317.toNat, 0]

def k0_chk62 (v2315 : BitVec 32) : Prop :=
  (∀ a, (k0_off62 v2315) a + S128x128.size a ≤ S4096x128.size a)
theorem k0_off62_inb : ∀ (v2315 : BitVec 32) (k0_hw62 : k0_chk62 v2315), ∀ a, (k0_off62 v2315) a + S128x128.size a ≤ S4096x128.size a := fun v2315 k0_hw62 => k0_hw62

def k0_dev62 (v1 : BitVec 32) : Nat :=
  let c0_i32_2265 : BitVec 32 := 0#32
  let c1_i32_2264 : BitVec 32 := 1#32
  let v2336 : BitVec 32 := Scalar.muli v1 c1_i32_2264
  let v2337 : BitVec 32 := Scalar.addi c0_i32_2265 v2336
  v2337.toNat
def k0_dev63 (v0 : BitVec 32) : Nat :=
  let c0_i32_2306 : BitVec 32 := 0#32
  let c1_i32_2305 : BitVec 32 := 1#32
  let v2376 : BitVec 32 := Scalar.muli v0 c1_i32_2305
  let v2377 : BitVec 32 := Scalar.addi c0_i32_2306 v2376
  v2377.toNat

def k0_chk1_0 (v0 : BitVec 32) : Prop :=
  ((k0_dev1 v0) < nD) ∧
  (∀ a, (k0_off2 v0) a + S128x128.size a ≤ S4096x128.size a) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD)
def k0_chk1_1 (v0 : BitVec 32) : Prop :=
  ((k0_dev63 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_off2_inb : ∀ (v0 : BitVec 32) (k0_hw1 : k0_chk1 v0), ∀ a, (k0_off2 v0) a + S128x128.size a ≤ S4096x128.size a := fun v0 k0_hw1 => k0_hw1.1.2.1
theorem k0_dev3_lt : ∀ (v0 : BitVec 32) (k0_hw1 : k0_chk1 v0), (k0_dev3 v0) < nD := fun v0 k0_hw1 => k0_hw1.1.2.2.1
theorem k0_dev5_lt : ∀ (v0 : BitVec 32) (k0_hw1 : k0_chk1 v0), (k0_dev5 v0) < nD := fun v0 k0_hw1 => k0_hw1.1.2.2.2.1
theorem k0_dev7_lt : ∀ (v0 : BitVec 32) (k0_hw1 : k0_chk1 v0), (k0_dev7 v0) < nD := fun v0 k0_hw1 => k0_hw1.1.2.2.2.2.1
theorem k0_dev9_lt : ∀ (v0 : BitVec 32) (k0_hw1 : k0_chk1 v0), (k0_dev9 v0) < nD := fun v0 k0_hw1 => k0_hw1.1.2.2.2.2.2.1
theorem k0_dev11_lt : ∀ (v0 : BitVec 32) (k0_hw1 : k0_chk1 v0), (k0_dev11 v0) < nD := fun v0 k0_hw1 => k0_hw1.1.2.2.2.2.2.2.1
theorem k0_dev13_lt : ∀ (v0 : BitVec 32) (k0_hw1 : k0_chk1 v0), (k0_dev13 v0) < nD := fun v0 k0_hw1 => k0_hw1.1.2.2.2.2.2.2.2.1
theorem k0_dev15_lt : ∀ (v0 : BitVec 32) (k0_hw1 : k0_chk1 v0), (k0_dev15 v0) < nD := fun v0 k0_hw1 => k0_hw1.1.2.2.2.2.2.2.2.2.1
theorem k0_dev17_lt : ∀ (v0 : BitVec 32) (k0_hw1 : k0_chk1 v0), (k0_dev17 v0) < nD := fun v0 k0_hw1 => k0_hw1.1.2.2.2.2.2.2.2.2.2.1
theorem k0_dev19_lt : ∀ (v0 : BitVec 32) (k0_hw1 : k0_chk1 v0), (k0_dev19 v0) < nD := fun v0 k0_hw1 => k0_hw1.1.2.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.2.1
theorem k0_dev43_lt : ∀ (v0 : BitVec 32) (k0_hw1 : k0_chk1 v0), (k0_dev43 v0) < nD := fun v0 k0_hw1 => k0_hw1.1.2.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.1.2.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.2
theorem k0_dev63_lt : ∀ (v0 : BitVec 32) (k0_hw1 : k0_chk1 v0), (k0_dev63 v0) < nD := fun v0 k0_hw1 => k0_hw1.2

def k0_off63 (v2386 : BitVec 32) : Fin 2 → Nat :=
  let c128_i32_2311 : BitVec 32 := 128#32
  let v2387 : BitVec 32 := Scalar.muli v2386 c128_i32_2311
  let v2388 : Index := Scalar.indexCast v2387
  let c0_2312 : Index := 0#32
  ![v2388.toNat, 0]

def k0_chk63 (v2386 : BitVec 32) : Prop :=
  (∀ a, (k0_off63 v2386) a + S128x128.size a ≤ S4096x128.size a)
theorem k0_off63_inb : ∀ (v2386 : BitVec 32) (k0_hw63 : k0_chk63 v2386), ∀ a, (k0_off63 v2386) a + S128x128.size a ≤ S4096x128.size a := fun v2386 k0_hw63 => k0_hw63

def k0_off64 (v2393 : BitVec 32) : Fin 2 → Nat :=
  let c128_i32_2314 : BitVec 32 := 128#32
  let v2394 : BitVec 32 := Scalar.muli v2393 c128_i32_2314
  let v2395 : Index := Scalar.indexCast v2394
  let c0_2315 : Index := 0#32
  ![v2395.toNat, 0]

def k0_chk64 (v2393 : BitVec 32) : Prop :=
  (∀ a, (k0_off64 v2393) a + S128x128.size a ≤ S4096x128.size a)
theorem k0_off64_inb : ∀ (v2393 : BitVec 32) (k0_hw64 : k0_chk64 v2393), ∀ a, (k0_off64 v2393) a + S128x128.size a ≤ S4096x128.size a := fun v2393 k0_hw64 => k0_hw64

def k0_dev64 (v1 : BitVec 32) : Nat :=
  let c0_i32_2341 : BitVec 32 := 0#32
  let c1_i32_2340 : BitVec 32 := 1#32
  let v2414 : BitVec 32 := Scalar.muli v1 c1_i32_2340
  let v2415 : BitVec 32 := Scalar.addi c0_i32_2341 v2414
  v2415.toNat

def k0_chk2_0 (v1 : BitVec 32) : Prop :=
  ((k0_dev2 v1) < nD) ∧
  (∀ a, (k0_off1 v1) a + S128x128.size a ≤ S4096x128.size a) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD)
def k0_chk2_1 (v1 : BitVec 32) : Prop :=
  ((k0_dev64 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_off1_inb : ∀ (v1 : BitVec 32) (k0_hw2 : k0_chk2 v1), ∀ a, (k0_off1 v1) a + S128x128.size a ≤ S4096x128.size a := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev6_lt : ∀ (v1 : BitVec 32) (k0_hw2 : k0_chk2 v1), (k0_dev6 v1) < nD := fun v1 k0_hw2 => k0_hw2.1.2.2.2.1
theorem k0_dev8_lt : ∀ (v1 : BitVec 32) (k0_hw2 : k0_chk2 v1), (k0_dev8 v1) < nD := fun v1 k0_hw2 => k0_hw2.1.2.2.2.2.1
theorem k0_dev10_lt : ∀ (v1 : BitVec 32) (k0_hw2 : k0_chk2 v1), (k0_dev10 v1) < nD := fun v1 k0_hw2 => k0_hw2.1.2.2.2.2.2.1
theorem k0_dev12_lt : ∀ (v1 : BitVec 32) (k0_hw2 : k0_chk2 v1), (k0_dev12 v1) < nD := fun v1 k0_hw2 => k0_hw2.1.2.2.2.2.2.2.1
theorem k0_dev14_lt : ∀ (v1 : BitVec 32) (k0_hw2 : k0_chk2 v1), (k0_dev14 v1) < nD := fun v1 k0_hw2 => k0_hw2.1.2.2.2.2.2.2.2.1
theorem k0_dev16_lt : ∀ (v1 : BitVec 32) (k0_hw2 : k0_chk2 v1), (k0_dev16 v1) < nD := fun v1 k0_hw2 => k0_hw2.1.2.2.2.2.2.2.2.2.1
theorem k0_dev18_lt : ∀ (v1 : BitVec 32) (k0_hw2 : k0_chk2 v1), (k0_dev18 v1) < nD := fun v1 k0_hw2 => k0_hw2.1.2.2.2.2.2.2.2.2.2.1
theorem k0_dev20_lt : ∀ (v1 : BitVec 32) (k0_hw2 : k0_chk2 v1), (k0_dev20 v1) < nD := fun v1 k0_hw2 => k0_hw2.1.2.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.2
theorem k0_dev64_lt : ∀ (v1 : BitVec 32) (k0_hw2 : k0_chk2 v1), (k0_dev64 v1) < nD := fun v1 k0_hw2 => k0_hw2.2

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 7
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S1x1, .f32⟩
  | .hbm, ⟨5, _⟩ => ⟨S1x1, .f32⟩
  | .hbm, ⟨6, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1x1, .f32⟩
  | .local _ .smem, ⟨1, _⟩ => ⟨S1x1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Hops.lean ====
/-
  The kernel's body as one program repeated: the prologue, thirty-one hops at a symbolic number `h`, and what the last hop stores.
  The printed body is this program by definitional unfolding (`Body.lean`).
-/
module

public import proofs.«01_k».proof.Proof.Gen.KernelIdeal
public import proofs.«01_k».proof.Proof.Gen.KernelIdeal.Skeleton

@[expose] public section

noncomputable section

namespace Cert.Ring

open Cert.KernelIdeal Cert.KernelIdeal.Gen
open Idealize.ShloMosaic Idealize.SL.Sem

variable {F : FTy → Type} [FloatOps F]

/-- Programs of the kernel's body. -/
abbrev P (F : FTy → Type) [FloatOps F] : Type 1 := Prog (TpuEff nD τ sig (Elt F) Λ₀ .tc) PUnit

/-! ## The buffers and semaphores the body is called on -/

abbrev pM : Memref sig .tc .smem S64 .i32 := Memref.whole cc0_stg0_0
abbrev xM : Memref sig .tc .vmem S4096x128 .fp8e4m3 := Memref.whole cc0_stg1_0
abbrev wM : Memref sig .tc .vmem S128x8192 .fp8e5m2 := Memref.whole cc0_stg2_0
abbrev sxM : Memref sig .tc .smem S1x1 .f32 := Memref.whole cc0_stg3_0
abbrev swM : Memref sig .tc .smem S1x1 .f32 := Memref.whole cc0_stg4_0
abbrev oM : Memref sig .tc .vmem S128x8192 .f32 := Memref.whole cc0_stg5_0
/-- The two buffers the halves travel through: left half forwards, right half backwards. -/
abbrev fM : Memref sig .tc .vmem S2x128x4096 .bf16 := Memref.whole cc0_scratch0
abbrev bM : Memref sig .tc .vmem S2x128x4096 .bf16 := Memref.whole cc0_scratch1

theorem inb_slot : ∀ (i : Fin 2) a, (![i.val, 0, 0] : Fin 3 → ℕ) a + S1x128x4096.size a ≤ S2x128x4096.size a := by decide
theorem inb_two : ∀ (i : Fin 2) a, (![i.val] : Fin 1 → ℕ) a + S1.size a ≤ S2.size a := by decide
theorem inb_word : ∀ (j : Fin 64) a, (![j.val] : Fin 1 → ℕ) a + S1.size a ≤ S64.size a := by decide

/-- Slot `i` of a travelling buffer, as the rectangle the body loads and stores. -/
abbrev slotR (i : Fin 2) : Rect S2x128x4096 := Rect.unit (s := S2x128x4096) ![i.val, 0, 0] S1x128x4096.size (inb_slot i)
theorem slotR_packed : ∀ i : Fin 2, (slotR i).PackedRows (EltTy.packing .bf16)
  | 0 => packedbf16_S2x128x4096_S1x128x4096_0_0_0
  | 1 => packedbf16_S2x128x4096_S1x128x4096_1_0_0
theorem slotR_words : ∀ i : Fin 2, (slotR i).WholeWords (EltTy.packing .bf16)
  | 0 => wordsbf16_S2x128x4096_S1x128x4096_0_0_0
  | 1 => wordsbf16_S2x128x4096_S1x128x4096_1_0_0
/-- Slot `i` of a travelling buffer, as the matrix the copies move. -/
abbrev slot (a : Memref sig .tc .vmem S2x128x4096 .bf16) (i : Fin 2) : Memref sig .tc .vmem S128x4096 .bf16 :=
  (a.slice (slotR i) (fun _ => rfl)).squeeze S128x4096 squeezes_S1x128x4096_S128x4096
theorem slot_exact {a : Memref sig .tc .vmem S2x128x4096 .bf16} (ha : a.IsWhole) (i : Fin 2) : (slot a i).view.WordExact :=
  (ha.wordExact_slice rfl _ (slotR_words i)).reshape _ _
/-- Entry `i` of a pair of semaphores. -/
abbrev semAt (a : DmaSems sig S2) (i : Fin 2) : DmaSem sig :=
  ((a.slice (Rect.unit (s := S2) ![i.val] S1.size (inb_two i))).squeeze S_ squeezes_S1_S_).sem
/-- The barrier. -/
abbrev barS : Sem sig := (SemArray.scalar (sig.barrier 0 rfl) : Sems sig S_).sem
/-- The parity of a hop. -/
abbrev par (h : ℕ) : Fin 2 := ⟨h % 2, Nat.mod_lt _ (by decide)⟩

/-- The word rectangle of the table of hops. -/
abbrev wordR (j : ℕ) (hj : j < 64) : Rect S64 := Rect.unit (s := S64) ![j] S1.size (inb_word ⟨j, hj⟩)

abbrev fwhole : fM.IsWhole := Memref.isWhole_whole _
abbrev bwhole : bM.IsWhole := Memref.isWhole_whole _

/-! ## The program -/

/-- Read word `j` of the table. -/
abbrev word (j : ℕ) (hj : j < 64) : Prog (TpuEff nD τ sig (Elt F) Λ₀ .tc) (Elt F .i32) := smemLoad pM (wordR j hj) numel1_S1 rfl
/-- Read slot `i` of a travelling buffer. -/
abbrev readSlot (a : Memref sig .tc .vmem S2x128x4096 .bf16) (i : Fin 2) : Prog (TpuEff nD τ sig (Elt F) Λ₀ .tc) (Vec F S1x128x4096 .bf16) :=
  Prog.lift (.load a (slotR i).toLoadRect (View.loadsAt_vmem h_S1x128x4096))
/-- Write slot `i` of a travelling buffer. -/
abbrev writeSlot (a : Memref sig .tc .vmem S2x128x4096 .bf16) (ha : a.IsWhole) (i : Fin 2) (v : FVec F S1x128x4096 .bf16) :
    Prog (TpuEff nD τ sig (Elt F) Λ₀ .tc) PUnit :=
  Prog.lift (.store a (slotR i) v Finset.univ (View.stores_vmem h_S1x128x4096 (ha.storeExact_slice rfl _ (slotR_packed i)) (fun _ => rfl)) (.inl rfl))
/-- Start the copy of slot `i` of `a` into slot `j` of `a` on device `d`. -/
abbrev startCopy (a : Memref sig .tc .vmem S2x128x4096 .bf16) (ha : a.IsWhole) (sS sR : DmaSems sig S2) (i j : Fin 2) (d : Dev nD) :
    Prog (TpuEff nD τ sig (Elt F) Λ₀ .tc) PUnit :=
  Prog.lift (.enqueueDma (slot a i) (.remote (Dev.tc d) (slot a j) (.dma (semAt sS i))) (.dma (semAt sR j)) (slot_exact ha i) (slot_exact ha j)
    ⟨⟨rfl, Or.inl rfl⟩, trivial⟩)
/-- Wait for one copy's worth on entry `i` of `s`. -/
abbrev waitCopy (a : Memref sig .tc .vmem S2x128x4096 .bf16) (ha : a.IsWhole) (s : DmaSems sig S2) (i j : Fin 2) :
    Prog (TpuEff nD τ sig (Elt F) Λ₀ .tc) PUnit :=
  Prog.lift (.waitDma2 (semAt s i) (slot a j) (slot a i) (slot_exact ha j) (slot_exact ha i))
/-- Read the rows of `x` that block `v` names. -/
abbrev rows (v : BitVec 32) (hv : ∀ a, (k0_off3 v) a + S128x128.size a ≤ S4096x128.size a) :
    Prog (TpuEff nD τ sig (Elt F) Λ₀ .tc) (Vec F S128x128 .fp8e4m3) :=
  Prog.lift (.load xM (Rect.unit (s := S4096x128) (k0_off3 v) S128x128.size hv).toLoadRect (View.loadsAt_vmem h_S128x128))
abbrev halfL (hl : ∀ a, (![0, 0] : Fin 2 → ℕ) a + S128x4096.size a ≤ S128x8192.size a := inb_S128x8192_S128x4096_0_0) : Rect S128x8192 :=
  Rect.unit (s := S128x8192) ![0, 0] S128x4096.size hl
abbrev halfR (hl : ∀ a, (![0, 4096] : Fin 2 → ℕ) a + S128x4096.size a ≤ S128x8192.size a := inb_S128x8192_S128x4096_0_4096) : Rect S128x8192 :=
  Rect.unit (s := S128x8192) ![0, 4096] S128x4096.size hl

/-- A hop up to where both arrivals are used: the forward copy starts, both partial products are taken, the forward copy has left and
    arrived, the backward copy starts. -/
def head (v0 : BitVec 32) (hw1 : k0_chk1 v0) (v1 : BitVec 32) (hw2 : k0_chk2 v1) (v9 v12 : FVec F S128x4096 .bf16) (h : ℕ) (hh : h < 31)
    (k : FVec F S128x4096 .f32 → FVec F S128x4096 .f32 → P F) : P F := do
  startCopy fM fwhole cc0_scratch2 cc0_scratch3 (par h) (par (h + 1)) (⟨k0_dev1 v0, k0_dev1_lt v0 hw1⟩ : Dev nD)
  let cf : Elt F .i32 ← word (2 + h) (by omega)
  let kf : PLift (k0_chk3 cf) ← Prog.lift (TpuEff.assume (k0_chk3 cf) (k0_chk3.dec cf))
  let xf ← rows cf kf.down
  let cb : Elt F .i32 ← word (33 + h) (by omega)
  let kb : PLift (k0_chk3 cb) ← Prog.lift (TpuEff.assume (k0_chk3 cb) (k0_chk3.dec cb))
  let xb ← rows cb kb.down
  waitCopy fM fwhole cc0_scratch2 (par h) (par (h + 1))
  waitCopy fM fwhole cc0_scratch3 (par (h + 1)) (par h)
  startCopy bM bwhole cc0_scratch4 cc0_scratch5 (par h) (par (h + 1)) (⟨k0_dev2 v1, k0_dev2_lt v1 hw2⟩ : Dev nD)
  k (k0_pay8 v9 xf) (k0_pay9 v12 xb)

/-- The backward copy has left and arrived. -/
def backDone (h : ℕ) (k : P F) : P F := do
  waitCopy bM bwhole cc0_scratch4 (par h) (par (h + 1))
  waitCopy bM bwhole cc0_scratch5 (par (h + 1)) (par h)
  k

/-- A hop that is not the last. -/
def hop (v0 : BitVec 32) (hw1 : k0_chk1 v0) (v1 : BitVec 32) (hw2 : k0_chk2 v1) (v9 v12 : FVec F S128x4096 .bf16) (h : ℕ) (hh : h < 31)
    (k : P F) : P F :=
  head v0 hw1 v1 hw2 v9 v12 h hh fun pf pb => do
    let a ← readSlot fM (par (h + 1))
    let _ ← readSlot fM (par (h + 1))
    writeSlot fM fwhole (par (h + 1)) (k0_pay11 pf (k0_pay10 a))
    backDone h do
      let b ← readSlot bM (par (h + 1))
      let _ ← readSlot bM (par (h + 1))
      writeSlot bM bwhole (par (h + 1)) (k0_pay12 pb b)
      k

/-- The last hop: each half's sum, scaled and gated, goes to the result. -/
def lastHop (v0 : BitVec 32) (hw1 : k0_chk1 v0) (v1 : BitVec 32) (hw2 : k0_chk2 v1) (v9 v12 : FVec F S128x4096 .bf16) (v35 : F .f32) : P F :=
  head v0 hw1 v1 hw2 v9 v12 30 (by decide) fun pf pb => do
    let a ← readSlot fM 1
    let _ : Vec F S128x4096 .f32 ← Prog.lift (.load oM halfL.toLoadRect (View.loadsAt_vmem h_S128x4096))
    Prog.lift (.store oM halfL (k0_pay141 v35 pf (k0_pay140 a)) Finset.univ (View.stores_vmem_bits_univ h_S128x4096 rfl) (.inl rfl))
    backDone 30 do
      let b ← readSlot bM 1
      let _ : Vec F S128x4096 .f32 ← Prog.lift (.load oM halfR.toLoadRect (View.loadsAt_vmem h_S128x4096))
      Prog.lift (.store oM halfR (k0_pay1 v35 pb b) Finset.univ (View.stores_vmem_bits_univ h_S128x4096 rfl) (.inl rfl))

/-- Hops `30 - n` to `30`. -/
def hops (v0 : BitVec 32) (hw1 : k0_chk1 v0) (v1 : BitVec 32) (hw2 : k0_chk2 v1) (v9 v12 : FVec F S128x4096 .bf16) (v35 : F .f32) : ℕ → P F
  | 0 => lastHop v0 hw1 v1 hw2 v9 v12 v35
  | n + 1 => hop v0 hw1 v1 hw2 v9 v12 (29 - n) (by omega) (hops v0 hw1 v1 hw2 v9 v12 v35 n)

/-- Everything before the hops. -/
def prologue (k : (v0 : BitVec 32) → k0_chk1 v0 → (v1 : BitVec 32) → k0_chk2 v1 → FVec F S128x4096 .bf16 → FVec F S128x4096 .bf16 → F .f32 → P F) : P F := do
  let v0 : Elt F .i32 ← word 0 (by decide)
  let k1 : PLift (k0_chk1 v0) ← Prog.lift (TpuEff.assume (k0_chk1 v0) (k0_chk1.dec v0))
  let v1 : Elt F .i32 ← word 1 (by decide)
  let k2 : PLift (k0_chk2 v1) ← Prog.lift (TpuEff.assume (k0_chk2 v1) (k0_chk2.dec v1))
  semSignalWord (⟨k0_dev1 v0, k0_dev1_lt v0 k1.down⟩ : Dev nD) barS 1#32
  semSignalWord (⟨k0_dev2 v1, k0_dev2_lt v1 k2.down⟩ : Dev nD) barS 1#32
  semWaitWord barS 2#32
  let v7 : Vec F S128x4096 .fp8e5m2 ← Prog.lift (.load wM halfL.toLoadRect (View.loadsAt_vmem h_S128x4096))
  let v10 : Vec F S128x4096 .fp8e5m2 ← Prog.lift (.load wM halfR.toLoadRect (View.loadsAt_vmem h_S128x4096))
  let v15 ← rows v1 (k0_off1_inb v1 k2.down)
  let _ ← readSlot fM 0
  writeSlot fM fwhole 0 (k0_pay4 v7 v15)
  let v25 ← rows v0 (k0_off2_inb v0 k1.down)
  let _ ← readSlot bM 0
  writeSlot bM bwhole 0 (k0_pay6 (k0_pay5 v10 v25))
  let v33 : Elt F .f32 ← smemLoad sxM (Rect.unit (s := S1x1) ![0, 0] S1x1.size inb_S1x1_S1x1_0_0) numel1_S1x1 rfl
  let v34 : Elt F .f32 ← smemLoad swM (Rect.unit (s := S1x1) ![0, 0] S1x1.size inb_S1x1_S1x1_0_0) numel1_S1x1 rfl
  k v0 k1.down v1 k2.down (k0_pay2 v7) (k0_pay3 v10) (k0_pay7 v33 v34)

/-- The body. -/
def body : P F := prologue fun v0 hw1 v1 hw2 v9 v12 v35 => hops v0 hw1 v1 hw2 v9 v12 v35 30

end Cert.Ring

end
-- ==== Proof.Cycle.lean ====
/- The cycle of devices, the table of hops, and that the table's words pass the body's range checks. -/
module

public import proofs.«01_k».proof.Proof.Hops

@[expose] public section

noncomputable section

namespace Cert.Ring

open Cert.KernelIdeal Cert.KernelIdeal.Gen
open Idealize.ShloMosaic Idealize.SL.Sem

/-- The device at a place of the cycle. -/
def cyc : Fin 32 → Dev nD := ![0, 3, 4, 7, 15, 12, 11, 8, 16, 19, 20, 23, 31, 28, 27, 24, 25, 26, 29, 30, 22, 21, 18, 17, 9, 10, 13, 14, 6, 5, 2, 1]
/-- A device's place on the cycle. -/
def pos : Dev nD → Fin 32 := ![0, 31, 30, 1, 2, 29, 28, 3, 7, 24, 25, 6, 5, 26, 27, 4, 8, 23, 22, 9, 10, 21, 20, 11, 15, 16, 17, 14, 13, 18, 19, 12]

theorem pos_cyc : ∀ i, pos (cyc i) = i := by decide
theorem cyc_pos : ∀ c, cyc (pos c) = c := by decide

/-- The device `k` places behind `c` for the forward half, ahead of it for the backward half: where what reaches `c` after `k` hops came from. -/
def far (d : Bool) (k : ℕ) (c : Dev nD) : Dev nD := cyc (if d then pos c - Fin.ofNat 32 k else pos c + Fin.ofNat 32 k)
/-- Where device `c` sends the half that travels in direction `d`. -/
def nb (d : Bool) (c : Dev nD) : Dev nD := cyc (if d then pos c + 1 else pos c - 1)

theorem far_zero (d : Bool) (c : Dev nD) : far d 0 c = c := by revert d c; decide
theorem far_one (d : Bool) (c : Dev nD) : far d 1 c = nb (!d) c := by revert d c; decide
theorem nb_to (d : Bool) (c : Dev nD) : nb d (nb (!d) c) = c := by revert d c; decide
theorem nb_to' (d : Bool) (c : Dev nD) : nb (!d) (nb d c) = c := by revert d c; decide
theorem nb_tf (c : Dev nD) : nb true (nb false c) = c := nb_to true c
theorem nb_ft (c : Dev nD) : nb false (nb true c) = c := nb_to false c
theorem nb_ne (c : Dev nD) : nb true c ≠ nb false c := by revert c; decide
theorem ofNat_succ (k : ℕ) : Fin.ofNat 32 (k + 1) = Fin.ofNat 32 k + 1 := by
  apply Fin.ext; simp [Fin.ofNat, Fin.val_add]
set_option maxRecDepth 100000 in
theorem far_succ (d : Bool) (k : ℕ) (c : Dev nD) : far d (k + 1) c = far d k (nb (!d) c) := by
  cases d <;> simp only [far, nb, Bool.not_true, Bool.not_false, if_true, if_false, Bool.false_eq_true, pos_cyc, ofNat_succ]
  · exact congrArg cyc ((by decide : ∀ a b : Fin 32, a + (b + 1) = a + 1 + b) _ _)
  · exact congrArg cyc ((by decide : ∀ a b : Fin 32, a - (b + 1) = a - 1 - b) _ _)
theorem far_32 (d : Bool) (c : Dev nD) : far d 32 c = c := by revert d c; decide

/-- The devices as a permutation. -/
def ring (d : Bool) : Dev nD ≃ Dev nD := ⟨nb d, nb (!d), nb_to' d, nb_to d⟩

/-- Word `j` of device `c`'s table. -/
def tab (c : Dev nD) (j : ℕ) : Dev nD :=
  if j = 0 then nb true c else if j = 1 then nb false c else if j < 33 then far true j c else far false (j - 31) c
abbrev wd (d : Dev nD) : BitVec 32 := BitVec.ofNat 32 d.val

theorem tab_zero (c : Dev nD) : tab c 0 = nb true c := if_pos rfl
theorem tab_one (c : Dev nD) : tab c 1 = nb false c := rfl
theorem tab_fwd (c : Dev nD) (h : ℕ) (hh : h < 31) : tab c (2 + h) = far true (h + 2) c := by
  unfold tab; rw [if_neg (by omega), if_neg (by omega), if_pos (by omega), Nat.add_comm]
theorem tab_bwd (c : Dev nD) (h : ℕ) : tab c (33 + h) = far false (h + 2) c := by
  unfold tab; rw [if_neg (by omega), if_neg (by omega), if_neg (by omega)]; congr 1; omega

/-! ## The range checks -/

theorem dev1_wd : ∀ d : Dev nD, k0_dev1 (wd d) = d.val := by decide
theorem dev2_wd : ∀ d : Dev nD, k0_dev2 (wd d) = d.val := by decide
theorem off3_wd : ∀ d : Dev nD, k0_off3 (wd d) = ![d.val * 128, 0] := by decide
theorem chk3_wd : ∀ d : Dev nD, k0_chk3 (wd d) := by decide
set_option maxRecDepth 100000 in
theorem chk1_wd : ∀ d : Dev nD, k0_chk1 (wd d) := by decide +kernel
set_option maxRecDepth 100000 in
theorem chk2_wd : ∀ d : Dev nD, k0_chk2 (wd d) := by decide +kernel

/-! ## Parities -/

theorem par_add_two (h : ℕ) : par (h + 2) = par h := by unfold par; congr 1; omega
theorem par_ne (h : ℕ) : par (h + 1) ≠ par h := fun e => by have := congrArg Fin.val e; simp only [par] at this; omega

end Cert.Ring

end
-- ==== Proof.Sched.lean ====
/-
  The protocol: the eight counters of a device, who pays each of their rounds and with what, and the order the waits stand in.
-/
module

public import proofs.«01_k».proof.Proof.Cycle
public import Idealize.ShloMosaic.Lib.Rounds
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

/-- Ghost state over `ℕ`-indexed waits: the index is the hop. -/
abbrev MM (F : FTy → Type) : Type := MT nD τ sig ℕ (Elt F) ℕ UU ℕ
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers and the counters, by direction -/

/-- The buffer a direction's half travels through. -/
abbrev buf : Bool → Memref sig .tc .vmem S2x128x4096 .bf16
  | true => fM
  | false => bM
theorem buf_whole : ∀ d, (buf d).IsWhole
  | true => fwhole
  | false => bwhole
abbrev sS : Bool → DmaSems sig S2
  | true => cc0_scratch2
  | false => cc0_scratch4
abbrev sR : Bool → DmaSems sig S2
  | true => cc0_scratch3
  | false => cc0_scratch5

abbrev barCell (c : Dev nD) : GSem nD τ sig := ((c : Thread nD τ), .reg barS)
abbrev sendCell (d : Bool) (i : Fin 2) (c : Dev nD) : GSem nD τ sig := ((c : Thread nD τ), .dma (semAt (sS d) i))
abbrev recvCell (d : Bool) (i : Fin 2) (c : Dev nD) : GSem nD τ sig := ((c : Thread nD τ), .dma (semAt (sR d) i))

/-- What a copy pays. -/
def N : ℕ := (slot fM 0).view.dmaCredit
theorem N_pos : 0 < N := by unfold N; exact View.dmaCredit_pos _ (by decide)
theorem credit_slot (d : Bool) (i : Fin 2) : (slot (buf d) i).view.dmaCredit = N := by
  unfold N; cases d <;> rfl

inductive Role
  | bar
  | send (d : Bool) (i : Fin 2)
  | recv (d : Bool) (i : Fin 2)
  | other
deriving DecidableEq

/-- What a counter is for. -/
def role : SemLoc sig → Role
  | .reg _ => .bar
  | .dma q =>
    if q.val = 6 then .send true 0 else if q.val = 7 then .send true 1 else if q.val = 8 then .recv true 0 else if q.val = 9 then .recv true 1
    else if q.val = 10 then .send false 0 else if q.val = 11 then .send false 1 else if q.val = 12 then .recv false 0
    else if q.val = 13 then .recv false 1 else .other

theorem role_send : ∀ d i, role (.dma (semAt (sS d) i)) = .send d i := by decide
theorem role_recv : ∀ d i, role (.dma (semAt (sR d) i)) = .recv d i := by decide

/-! ## Slots -/

/-- Slot `i` of direction `d`'s buffer on device `c`, holding `v`. -/
def slotAt (d : Bool) (i : Fin 2) (c : Dev nD) (v : Vec F S1x128x4096 .bf16) : sProp 𝕄 :=
  iprop(∃ f : Buf (Elt F) ((slot (buf d) i).view.loc (c : Thread nD τ)), ⌜((buf d).access (slotR i)).read (Elt F) f = v⌝
    ∗ ((slot (buf d) i).view.loc (c : Thread nD τ) ↦[(slot (buf d) i).view.set]{fullShare} f))
/-- The same at any contents. -/
def slotAny (d : Bool) (i : Fin 2) (c : Dev nD) : sProp 𝕄 :=
  iprop(∃ f : Buf (Elt F) ((slot (buf d) i).view.loc (c : Thread nD τ)),
    ((slot (buf d) i).view.loc (c : Thread nD τ) ↦[(slot (buf d) i).view.set]{fullShare} f))

omit [FloatOps F] in
theorem slotAny_of (d : Bool) (i : Fin 2) (c : Dev nD) (v : Vec F S1x128x4096 .bf16) : slotAt d i c v ⊢ slotAny d i c := by
  unfold slotAt slotAny
  iintro ⟨%f, -, H⟩; iexists f; iexact H

omit [FloatOps F] in
/-- A copied slot reads what its source reads. -/
theorem moved (d : Bool) (i j : Fin 2) (fd fs : (buf d).view.ty.Contents (Elt F)) :
    ((buf d).access (slotR j)).read (Elt F) ((slot (buf d) j).view.write (Elt F) fd ((slot (buf d) i).view.read (Elt F) fs) Finset.univ)
      = ((buf d).access (slotR i)).read (Elt F) fs := by
  show ((buf d).view.slice (slotR j)).read (Elt F) ((((buf d).view.slice (slotR j)).reshape S128x4096 squeezes_S1x128x4096_S128x4096.numel_eq).write (Elt F) fd _ _) = _
  rw [View.write_reshape_univ, View.read_write_univ]
  funext x
  show ((buf d).access (slotR i)).read (Elt F) fs (Shape.reshapeEquiv _ ((Shape.reshapeEquiv _).symm x)) = _
  rw [Equiv.apply_symm_apply]

/-! ## The schedule -/

variable (acc : Bool → ℕ → Dev nD → Vec F S1x128x4096 .bf16)

/-- Beside the data of the copy of hop `h` in direction `d`, device `c` gets from its sender the slot that `c`'s next copy goes to: with the
    forward data the sender's backward slot, with the backward data the sender's forward slot (after the last hop there is no next copy). -/
def extra (d : Bool) (h : ℕ) (c : Dev nD) : sProp 𝕄 :=
  match d with
  | true => iprop(slotAny false (par (h + 1)) (nb false c) ∗ reached ER (recvCell false (par (h + 1)) (nb false c)) (h / 2))
  | false => if h < 30 then iprop(slotAny true (par h) (nb true c) ∗ reached ER (recvCell true (par h) (nb true c)) ((h + 1) / 2)) else iprop(emp)

/-- Paid to the barrier of `c` by the next device, the slot the first forward copy goes to; by the previous one, nothing. -/
def barPay (d : Bool) (c : Dev nD) : sProp 𝕄 :=
  match d with
  | true => iprop(slotAny true 1 (nb true c) ∗ reached ER (recvCell true 1 (nb true c)) 0)
  | false => iprop(emp)

/-- Paid by the landing of the copy of hop `h` in direction `d` on device `c`. -/
def recvPay (d : Bool) (h : ℕ) (c : Dev nD) : sProp 𝕄 := iprop(slotAt d (par (h + 1)) c (acc d h (nb (!d) c)) ∗ extra d h c)
/-- Paid by its leaving: the slot it left from. -/
def sendPay (d : Bool) (h : ℕ) (c : Dev nD) : sProp 𝕄 := slotAt d (par h) c (acc d h c)

def theRd : Rounds.Schedule (GSem nD τ sig) Bool 𝕄 where
  duties g r := if g.1.2 = .tc then
      match role g.2 with
      | .bar => if r = 0 then {true, false} else ∅
      | .send _ i => if 2 * r + i.val < 31 then {true} else ∅
      | .recv _ j => if 2 * r + 1 - j.val < 31 then {true} else ∅
      | .other => ∅
    else ∅
  unitless _ := False
  amount g _ _ := if role g.2 = .bar then 1 else N
  payload g r b :=
    match role g.2 with
    | .bar => barPay b g.1.1
    | .send d i => sendPay acc d (2 * r + i.val) g.1.1
    | .recv d j => recvPay acc d (2 * r + 1 - j.val) g.1.1
    | .other => iprop(emp)
  amount_pos g _ _ _ := by
    by_cases h : role g.2 = .bar
    · rw [if_pos h]; exact Nat.one_pos
    · rw [if_neg h]; exact N_pos

instance slotAny_storable (d : Bool) (i : Fin 2) (c : Dev nD) : BI.Storable (upEmb : UEmb _ 𝕄) (slotAny (F := F) d i c) := by
  unfold slotAny; infer_instance
instance slotAt_storable (d : Bool) (i : Fin 2) (c : Dev nD) (v : Vec F S1x128x4096 .bf16) : BI.Storable (upEmb : UEmb _ 𝕄) (slotAt d i c v) := by
  unfold slotAt; infer_instance
instance extra_storable (d : Bool) (h : ℕ) (c : Dev nD) : BI.Storable (upEmb : UEmb _ 𝕄) (extra (F := F) d h c) := by
  unfold extra; (repeat' split) <;> infer_instance

instance theRd_storable (g : GSem nD τ sig) (r : ℕ) (b : Bool) : BI.Storable (upEmb : UEmb _ 𝕄) ((theRd acc).payload g r b) := by
  show BI.Storable upEmb (match role g.2 with
    | .bar => barPay b g.1.1
    | .send d i => sendPay acc d (2 * r + i.val) g.1.1
    | .recv d j => recvPay acc d (2 * r + 1 - j.val) g.1.1
    | .other => iprop(emp))
  split
  · unfold barPay; split <;> infer_instance
  · unfold sendPay; infer_instance
  · unfold recvPay; infer_instance
  · infer_instance

section Sched
variable (d : Bool) (h : ℕ) (c : Dev nD)

theorem send_hop : 2 * (h / 2) + (par h).val = h := by show 2 * (h / 2) + h % 2 = h; omega
theorem recv_hop : 2 * (h / 2) + 1 - (par (h + 1)).val = h := by show 2 * (h / 2) + 1 - (h + 1) % 2 = h; omega

theorem duties_bar : (theRd acc).duties (barCell c) 0 = {true, false} := by
  show (if (Proc.tc : Proc τ) = .tc then (if (0 : ℕ) = 0 then {true, false} else ∅) else ∅ : Finset Bool) = _
  rw [if_pos rfl, if_pos rfl]
theorem duties_send (hh : h < 31) : (theRd acc).duties (sendCell d (par h) c) (h / 2) = {true} := by
  dsimp only [theRd]; rw [if_pos rfl, role_send]; dsimp only; rw [send_hop, if_pos hh]
theorem duties_recv (hh : h < 31) : (theRd acc).duties (recvCell d (par (h + 1)) c) (h / 2) = {true} := by
  dsimp only [theRd]; rw [if_pos rfl, role_recv]; dsimp only; rw [recv_hop, if_pos hh]

theorem amount_bar (r : ℕ) (b : Bool) : (theRd acc).amount (barCell c) r b = 1 := by dsimp only [theRd]; exact if_pos rfl
theorem amount_send (i : Fin 2) (r : ℕ) (b : Bool) : (theRd acc).amount (sendCell d i c) r b = N := by
  dsimp only [theRd]; rw [role_send]; exact if_neg (fun e => by cases e)
theorem amount_recv (i : Fin 2) (r : ℕ) (b : Bool) : (theRd acc).amount (recvCell d i c) r b = N := by
  dsimp only [theRd]; rw [role_recv]; exact if_neg (fun e => by cases e)

theorem payload_bar (r : ℕ) (b : Bool) : (theRd acc).payload (barCell c) r b = barPay b c := rfl
theorem payload_send (b : Bool) : (theRd acc).payload (sendCell d (par h) c) (h / 2) b = sendPay acc d h c := by
  dsimp only [theRd]; rw [role_send]; dsimp only; rw [send_hop]
theorem payload_recv (b : Bool) : (theRd acc).payload (recvCell d (par (h + 1)) c) (h / 2) b = recvPay acc d h c := by
  dsimp only [theRd]; rw [role_recv]; dsimp only; rw [recv_hop]

theorem expect_bar : (theRd acc).expect (barCell c) 0 = 2 := by
  unfold Schedule.expect Schedule.amountOf; rw [duties_bar, Finset.sum_insert (by decide), Finset.sum_singleton, amount_bar, amount_bar]
theorem expect_send (hh : h < 31) : (theRd acc).expect (sendCell d (par h) c) (h / 2) = N := by
  unfold Schedule.expect Schedule.amountOf; rw [duties_send acc d h c hh, Finset.sum_singleton, amount_send]
theorem expect_recv (hh : h < 31) : (theRd acc).expect (recvCell d (par (h + 1)) c) (h / 2) = N := by
  unfold Schedule.expect Schedule.amountOf; rw [duties_recv acc d h c hh, Finset.sum_singleton, amount_recv]

theorem rest_bar : bigSep ((theRd acc).duties (barCell c) 0 \ ∅) (fun b => (theRd acc).payload (barCell c) 0 b) = iprop(barPay true c ∗ barPay false c) := by
  rw [Finset.sdiff_empty, duties_bar, bigSep_insert (by decide), bigSep_singleton, payload_bar, payload_bar]; rfl
theorem rest_send (hh : h < 31) : bigSep ((theRd acc).duties (sendCell d (par h) c) (h / 2) \ ∅)
    (fun b => (theRd acc).payload (sendCell d (par h) c) (h / 2) b) = sendPay acc d h c := by
  rw [Finset.sdiff_empty, duties_send acc d h c hh, bigSep_singleton, payload_send]
theorem rest_recv (hh : h < 31) : bigSep ((theRd acc).duties (recvCell d (par (h + 1)) c) (h / 2) \ ∅)
    (fun b => (theRd acc).payload (recvCell d (par (h + 1)) c) (h / 2) b) = recvPay acc d h c := by
  rw [Finset.sdiff_empty, duties_recv acc d h c hh, bigSep_singleton, payload_recv]

theorem no_bar (r : ℕ) (hr : 1 ≤ r) : (theRd acc).duties (barCell c) r = ∅ := by
  show (if (Proc.tc : Proc τ) = .tc then (if r = 0 then {true, false} else ∅) else ∅ : Finset Bool) = _
  rw [if_pos rfl, if_neg (by omega)]
theorem no_send (i : Fin 2) (r : ℕ) (hr : 31 ≤ 2 * r + i.val) : (theRd acc).duties (sendCell d i c) r = ∅ := by
  dsimp only [theRd]; rw [if_pos rfl, role_send]; dsimp only; rw [if_neg (by omega)]
theorem no_recv (i : Fin 2) (r : ℕ) (hr : 31 ≤ 2 * r + 1 - i.val) : (theRd acc).duties (recvCell d i c) r = ∅ := by
  dsimp only [theRd]; rw [if_pos rfl, role_recv]; dsimp only; rw [if_neg (by omega)]

end Sched

/-! ## What is owed, and the levels of the waits -/

/-- The credit of the copy of hop `h` in direction `d`. -/
def tD (d : Bool) (h : ℕ) (c : Dev nD) : CellTallies nD τ sig ℕ := tallyAt (recvCell d (par (h + 1)) (nb d c)) h N
/-- Owed from hop `h` on. -/
def owed (h : ℕ) (c : Dev nD) : CellTallies nD τ sig ℕ := ∑ j ∈ Finset.Ico h 31, (tD false j c + tD true j c)
/-- Owed at launch: all hops, and the two barrier units. -/
def O₀ (c : Dev nD) : CellTallies nD τ sig ℕ := owed 0 c + tallyAt (barCell (nb false c)) 0 1 + tallyAt (barCell (nb true c)) 0 1

theorem Ico_first {h : ℕ} (hh : h < 31) : Finset.Ico h 31 = insert h (Finset.Ico (h + 1) 31) := by
  ext j; simp only [Finset.mem_insert, Finset.mem_Ico]; omega
theorem first_notMem {h : ℕ} : h ∉ Finset.Ico (h + 1) 31 := by simp only [Finset.mem_Ico]; omega

theorem owed_step (h : ℕ) (hh : h < 31) (c : Dev nD) : owed h c = owed (h + 1) c + tD false h c + tD true h c := by
  unfold owed; rw [Ico_first hh, Finset.sum_insert first_notMem, add_comm (tD false h c + tD true h c), add_assoc]
theorem owed_end (c : Dev nD) : owed 31 c = 0 := rfl

def L (g : GSem nD τ sig) : Finset ℕ := if g.1.2 = .tc then Finset.range 31 else ∅
def lv (g : GSem nD τ sig) (ι : ℕ) : ℕ :=
  match role g.2 with
  | .bar => 1
  | .recv true _ => 2 + 2 * ι
  | .recv false _ => 3 + 2 * ι
  | _ => 0

theorem L_of_ne (g : GSem nD τ sig) (h : g.1.2 ≠ .tc) : L g = ∅ := if_neg h
theorem L_tc (c : Dev nD) (sm : SemLoc sig) : L ((c : Thread nD τ), sm) = Finset.range 31 := if_pos rfl
theorem lv_recv_t (i : Fin 2) (c : Dev nD) (ι : ℕ) : lv (recvCell true i c) ι = 2 + 2 * ι := by unfold lv; rw [role_recv]
theorem lv_recv_f (i : Fin 2) (c : Dev nD) (ι : ℕ) : lv (recvCell false i c) ι = 3 + 2 * ι := by unfold lv; rw [role_recv]
theorem lv_send (d : Bool) (i : Fin 2) (c : Dev nD) (ι : ℕ) : lv (sendCell d i c) ι = 0 := by unfold lv; rw [role_send]
theorem lv_bar (c : Dev nD) (ι : ℕ) : lv (barCell c) ι = 1 := rfl

/-- Everything in `O` stands above level `k`. -/
def Above (k : ℕ) (O : CellTallies nD τ sig ℕ) : Prop := ∀ g ι, 0 < O g ι → ι ∈ L g ∧ k < lv g ι

theorem Above.zero (k : ℕ) : Above k 0 := fun _ _ h => absurd h (Nat.lt_irrefl 0)
theorem Above.add {k : ℕ} {O O' : CellTallies nD τ sig ℕ} (h : Above k O) (h' : Above k O') : Above k (O + O') := fun g ι hg => by
  rw [Pi.add_apply, Finsupp.add_apply] at hg
  rcases Nat.add_pos_iff_pos_or_pos.mp hg with h1 | h1
  · exact h g ι h1
  · exact h' g ι h1
theorem Above.sum {k : ℕ} {I : Type} (s : Finset I) (O : I → CellTallies nD τ sig ℕ) (h : ∀ i ∈ s, Above k (O i)) : Above k (∑ i ∈ s, O i) := by
  classical
  induction s using Finset.induction_on with
  | empty => rw [Finset.sum_empty]; exact .zero k
  | insert a s ha ih =>
    rw [Finset.sum_insert ha]
    exact (h a (Finset.mem_insert_self _ _)).add (ih fun i hi => h i (Finset.mem_insert_of_mem hi))
theorem Above.tally {k : ℕ} {g : GSem nD τ sig} {ι n : ℕ} (h1 : ι ∈ L g) (h2 : k < lv g ι) : Above k (tallyAt g ι n) := fun g' ι' hg => by
  rw [tallyAt_apply] at hg
  by_cases h : g' = g ∧ ι' = ι
  · rw [h.1, h.2]; exact ⟨h1, h2⟩
  · rw [if_neg h] at hg; exact absurd hg (Nat.lt_irrefl 0)
theorem above_tD_t (k h : ℕ) (hh : h < 31) (hk : k < 2 + 2 * h) (c : Dev nD) : Above k (tD true h c) :=
  .tally (by rw [L_tc]; exact Finset.mem_range.mpr hh) (by rw [lv_recv_t]; exact hk)
theorem above_tD_f (k h : ℕ) (hh : h < 31) (hk : k < 3 + 2 * h) (c : Dev nD) : Above k (tD false h c) :=
  .tally (by rw [L_tc]; exact Finset.mem_range.mpr hh) (by rw [lv_recv_f]; exact hk)
theorem above_owed (k h : ℕ) (hk : k < 2 + 2 * h) (c : Dev nD) : Above k (owed h c) :=
  .sum _ _ fun j hj => by
    have := Finset.mem_Ico.mp hj
    exact (above_tD_f k j this.2 (by omega) c).add (above_tD_t k j this.2 (by omega) c)
theorem above_O₀ (c : Dev nD) : Above 0 (O₀ c) :=
  ((above_owed 0 0 (by omega) c).add (.tally (by rw [L_tc]; decide) (by rw [lv_bar]; omega))).add (.tally (by rw [L_tc]; decide) (by rw [lv_bar]; omega))

omit [FloatOps F] in
/-- A wait at a level below everything owed may be made. -/
theorem mayWait (c : Dev nD) (sm : SemLoc sig) (ι : ℕ) (hι : ι < 31) {O : CellTallies nD τ sig ℕ} {k : ℕ} (hO : Above k O)
    (hk : lv ((c : Thread nD τ), sm) ι ≤ k) : (levAts L lv : sProp 𝕄) ⊢ MayWait (c : Thread nD τ) sm ι O :=
  MayOwe.of_cut (L := L) (lev := lv) k (fun p hp => by rw [Finset.mem_singleton.mp hp, L_tc]; exact Finset.mem_range.mpr hι)
    (fun g u hg => (hO g u hg).1) (fun p hp => by rw [Finset.mem_singleton.mp hp]; exact hk) (fun g u hg => (hO g u hg).2)

end Cert.Ring

end
-- ==== Proof.Steps.lean ====
/-
  One step of the body at a time: reading a word of the table, reading and writing a slot, starting a copy, waiting for it to have left, waiting
  for one to have arrived — each once, for both directions and every hop.
-/
module

public import proofs.«01_k».proof.Proof.Sched

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ := Variants.none
abbrev defs₀ := Cert.KernelIdeal.defs₀ (F := F)

/-- The kernel's weakest precondition on device `c`. -/
abbrev WP (c : Dev nD) (p : P F) (Q : PUnit → sProp 𝕄) : sProp 𝕄 := wp frame (wpE (defs₀ (F := F)) 𝒱₀ (c : Thread nD τ) none) Set.univ p Q

variable (acc : Bool → ℕ → Dev nD → Vec F S1x128x4096 .bf16)

/-! ## The cells, and the records every device may consult -/

/-- A device's own eight copy counters. -/
def copyCells : Finset (GSem nD τ sig) :=
  Finset.univ.image fun x : Dev nD × Bool × Bool × Fin 2 => if x.2.1 then sendCell x.2.2.1 x.2.2.2 x.1 else recvCell x.2.2.1 x.2.2.2 x.1
def barCells : Finset (GSem nD τ sig) := Finset.univ.image barCell

theorem send_mem (d : Bool) (i : Fin 2) (c : Dev nD) : sendCell d i c ∈ barCells ∪ copyCells :=
  Finset.mem_union_right _ (Finset.mem_image.mpr ⟨(c, true, d, i), Finset.mem_univ _, rfl⟩)
theorem recv_mem (d : Bool) (i : Fin 2) (c : Dev nD) : recvCell d i c ∈ barCells ∪ copyCells :=
  Finset.mem_union_right _ (Finset.mem_image.mpr ⟨(c, false, d, i), Finset.mem_univ _, rfl⟩)
theorem bar_mem (c : Dev nD) : barCell c ∈ barCells ∪ copyCells :=
  Finset.mem_union_left _ (Finset.mem_image.mpr ⟨c, Finset.mem_univ _, rfl⟩)

/-- All invariants under one map of names, round 0 of every barrier reached, and the levels. -/
def Ctx (K : GSem nD τ sig → ℕ) : sProp 𝕄 :=
  iprop((bigSep (barCells ∪ copyCells) fun g => cellInv ER (theRd acc) (K g) g) ∗ (bigSep barCells fun g => reached ER g 0) ∗ levAts L lv)

instance ctx_persistent (K : GSem nD τ sig → ℕ) : BI.Persistent (Ctx (F := F) acc K) := by unfold Ctx; infer_instance

theorem inv_of (K : GSem nD τ sig → ℕ) {g : GSem nD τ sig} (hg : g ∈ barCells ∪ copyCells) :
    (bigSep (barCells ∪ copyCells) fun g => (cellInv ER (theRd acc) (K g) g : sProp 𝕄)) ⊢ cellInv ER (theRd acc) (K g) g :=
  bigSep_elim hg
omit [FloatOps F] in
theorem bar_of (c : Dev nD) : (bigSep barCells fun g => (reached ER g 0 : sProp 𝕄)) ⊢ reached ER (barCell c) 0 :=
  bigSep_elim (Finset.mem_image.mpr ⟨c, Finset.mem_univ _, rfl⟩)
theorem ctx_inv (K : GSem nD τ sig → ℕ) {g : GSem nD τ sig} (hg : g ∈ barCells ∪ copyCells) : Ctx acc K ⊢ cellInv ER (theRd acc) (K g) g := by
  unfold Ctx
  iintro ⟨H, -, -⟩
  iapply (inv_of acc K hg); iexact H
theorem ctx_bar (K : GSem nD τ sig → ℕ) (c : Dev nD) : Ctx acc K ⊢ reached ER (barCell c) 0 := by
  unfold Ctx
  iintro ⟨-, H, -⟩
  iapply (bar_of (F := F) c); iexact H
theorem ctx_lev (K : GSem nD τ sig → ℕ) : Ctx acc K ⊢ levAts L lv := by
  unfold Ctx
  iintro ⟨-, -, H⟩
  iexact H

/-- The owner of a cell stands before its round `r`. -/
abbrev at_ (g : GSem nD τ sig) (r : ℕ) : sProp 𝕄 := iprop(atPos ER g r ∅ 0 ∗ reached ER g r)

section
variable (K : GSem nD τ sig → ℕ) (c : Dev nD) {Q : PUnit → sProp (MT nD τ sig ℕ (Elt F) ℕ UU ℕ)}

/-! ## Slots -/

omit [FloatOps F] in
theorem slotAt_any (d : Bool) (i : Fin 2) : slotAny d i c ⊢ (∃ v : Vec F S1x128x4096 .bf16, slotAt d i c v : sProp 𝕄) := by
  unfold slotAny slotAt
  iintro ⟨%f, H⟩
  iexists ((buf d).access (slotR i)).read (Elt F) f
  iexists f
  isplitr; · ipureintro; rfl
  iexact H

theorem slot_set (d : Bool) (i : Fin 2) : ((buf d).access (slotR i)).set = (slot (buf d) i).view.set := (View.set_reshape _ _).symm

theorem wp_readSlot (d : Bool) (i : Fin 2) (v : Vec F S1x128x4096 .bf16) {hl : (buf d).view.LoadsAt (slotR i).toLoadRect}
    {k : Vec F S1x128x4096 .bf16 → P F} :
    slotAt d i c v ⊢ iprop((slotAt d i c v -∗ WP c (k v) Q) -∗ WP c (.op (.load (buf d) (slotR i).toLoadRect hl) k) Q) := by
  unfold slotAt
  iintro ⟨%f, %hv, H⟩ Hk
  subst hv
  iapply (wp_load_rect 𝒱₀ (c : Thread nD τ) none Set.univ (m := buf d) (r := slotR i) (S := (slot (buf d) i).view.set) (slot_set d i).subset) $$ H
  iintro H
  iapply Hk
  iexists f
  isplitr; · ipureintro; rfl
  iexact H

theorem wp_writeSlot (d : Bool) (i : Fin 2) (w : Vec F S1x128x4096 .bf16) {hx : ((buf d).access (slotR i)).Stores Finset.univ}
    {hm : Finset.univ = Finset.univ ∨ ∀ a, (slotR i).stride a = 1} {k : PUnit → P F} :
    slotAny d i c ⊢ iprop((slotAt d i c w -∗ WP c (k ⟨⟩) Q) -∗ WP c (.op (.store (buf d) (slotR i) w Finset.univ hx hm) k) Q) := by
  unfold slotAny slotAt
  iintro ⟨%f, H⟩ Hk
  iapply (wp_store 𝒱₀ (c : Thread nD τ) none Set.univ (m := buf d) (r := slotR i) (S := (slot (buf d) i).view.set) (slot_set d i).subset) $$ H
  iintro H
  iapply Hk
  iexists ((buf d).access (slotR i)).write (Elt F) f w Finset.univ
  isplitr; · ipureintro; exact View.read_write_univ _ _
  iexact H

/-! ## The table, and the rows of `x` -/

/-- Device `c`'s staged table. -/
def pTab : S64.Idx → BitVec 32 := fun i => wd (tab c (i 0).val)

def Tab : sProp 𝕄 := iprop((pM.view.loc (c : Thread nD τ)) ↦{fullShare} (pTab c))

theorem wp_word (j : ℕ) (hj : j < 64) (e : Dev nD) (he : tab c j = e) {k : Elt F .i32 → P F} :
    Tab c ⊢ iprop((Tab c -∗ WP c (k (wd e)) Q) -∗ WP c ((word j hj).bind k) Q) := by
  subst he
  unfold Tab
  iintro H Hk
  iapply (wp_load_rect 𝒱₀ (c : Thread nD τ) none Set.univ (m := pM) (r := wordR j hj) (S := Finset.univ) (Finset.subset_univ _)) $$ H
  iexact Hk

/-! ## Copies -/

variable (d : Bool) (h : ℕ) (hh : h < 31)

include hh in
theorem wp_start (n : Dev nD) (hn : n = nb d c) (O : CellTallies nD τ sig ℕ) (W : Waits sig ℕ)
    {hsc : (slot (buf d) (par (h + 1)) : Memref sig (Dev.tc n : Thread nD τ).2.kind .vmem S128x4096 .bf16).view.ref.isScScratch = false}
    {hsrc : (slot (buf d) (par h)).view.WordExact} {hdst : (slot (buf d) (par (h + 1))).view.WordExact}
    {hsem : DmaTarget.Typed .vmem (.dma (semAt (sR d) (par (h + 1))))
      (.remote (Dev.tc n : Thread nD τ) (slot (buf d) (par (h + 1)) : Memref sig .tc .vmem S128x4096 .bf16) (.dma (semAt (sS d) (par h))) hsc)}
    {k : PUnit → P F} :
    iprop(Ctx acc K ∗ slotAt d (par h) c (acc d h c) ∗ slotAny d (par (h + 1)) (nb d c) ∗ reached ER (recvCell d (par (h + 1)) (nb d c)) (h / 2)
        ∗ extra d h (nb d c) ∗ owes (c : Thread nD τ) (O + tD d h c) W
        ∗ dutyTok ER (sendCell d (par h) c) (h / 2) true ∗ reached ER (sendCell d (par h) c) (h / 2)
        ∗ dutyTok ER (recvCell d (par (h + 1)) (nb d c)) (h / 2) true)
      ⊢ iprop(((cred (tallyAt (sendCell d (par h) c) 0 N) ∗ owes (c : Thread nD τ) O W) -∗ WP c (k ⟨⟩) Q)
          -∗ WP c (.op (.enqueueDma (slot (buf d) (par h)) (.remote (Dev.tc n : Thread nD τ) (slot (buf d) (par (h + 1)))
              (.dma (semAt (sS d) (par h))) hsc) (.dma (semAt (sR d) (par (h + 1)))) hsrc hdst hsem) k) Q) := by
  subst hn
  iintro ⟨#HC, Hs, Hn, Hr, Hx, HO, Ht1, Hr1, Ht2⟩
  unfold slotAt slotAny
  icases Hs with ⟨%fs, %hfs, Hs⟩
  icases Hn with ⟨%fd, Hn⟩
  iapply (wp_send_pointsTo_with 𝒱₀ ER (theRd acc) (c : Thread nD τ) none (c' := (nb d c : Thread nD τ)) (κ₁ := K (sendCell d (par h) c)) (κ₂ := K (recvCell d (par (h + 1)) (nb d c)))
    (src := slot (buf d) (par h)) (dst := slot (buf d) (par (h + 1))) (sS := .dma (semAt (sS d) (par h))) (sem := .dma (semAt (sR d) (par (h + 1))))
    (r₁ := h / 2) (r₂ := h / 2) (d₁ := true) (d₂ := true) (fs := fs) (fd := fd) (F := extra d h (nb d c))
    (by rw [duties_send acc d h c hh]; exact Finset.mem_singleton_self _) (by rw [duties_recv acc d h (nb d c) hh]; exact Finset.mem_singleton_self _)
    h 0 N (credit_slot d (par (h + 1))) (amount_send acc d c (par h) (h / 2) true) (amount_recv acc d (nb d c) (par (h + 1)) (h / 2) true) O rfl (W := W)
    (by
      rw [payload_send]; unfold sendPay slotAt
      iintro H; iexists fs; isplitr; · ipureintro; exact hfs
      iexact H)
    (by
      rw [payload_recv]; unfold recvPay slotAt
      iintro ⟨H, Hx⟩
      isplitl [H]
      · iexists ((slot (buf d) (par (h + 1))).view.write (Elt F) fd ((slot (buf d) (par h)).view.read (Elt F) fs) Finset.univ)
        isplitr
        · ipureintro; rw [nb_to']; exact (moved d (par h) (par (h + 1)) fd fs).trans hfs
        · iexact H
      · iexact Hx))
  isplitr; · iapply (ctx_inv acc K (send_mem d (par h) c)); iexact HC
  isplitr; · iapply (ctx_inv acc K (recv_mem d (par (h + 1)) (nb d c))); iexact HC
  isplitl [Hs]; · iexact Hs
  isplitl [Hn Hx]; · isplitl [Hn] <;> iassumption
  isplitl [HO]; · iexact HO
  isplitl [Ht1]; · iexact Ht1
  isplitl [Hr1]; · iexact Hr1
  isplitl [Ht2]; · iexact Ht2
  iexact Hr

set_option maxRecDepth 20000 in
theorem may_left {O : CellTallies nD τ sig ℕ} (hO : Above 0 O) : Ctx acc K ⊢ MayWait (c : Thread nD τ) (.dma (semAt (sS d) (par h))) 0 O :=
  (ctx_lev acc K).trans (mayWait c (.dma (semAt (sS d) (par h))) 0 (by decide) hO (lv_send d (par h) c 0).le)
set_option maxRecDepth 20000 in
include hh in
theorem may_arrived {O : CellTallies nD τ sig ℕ} (hO : Above (lv (recvCell d (par (h + 1)) c) h) O) :
    Ctx acc K ⊢ MayWait (c : Thread nD τ) (.dma (semAt (sR d) (par (h + 1)))) h O :=
  (ctx_lev acc K).trans (mayWait c (.dma (semAt (sR d) (par (h + 1)))) h hh hO le_rfl)

include hh in
theorem wp_left {O : CellTallies nD τ sig ℕ} (hO : Above 0 O) (W : Waits sig ℕ) {e₁ e₂} {k : PUnit → P F} :
    iprop(Ctx acc K ∗ cred (tallyAt (sendCell d (par h) c) 0 N) ∗ owes (c : Thread nD τ) O W ∗ atPos ER (sendCell d (par h) c) (h / 2) ∅ 0)
      ⊢ iprop((((∃ W, owes (c : Thread nD τ) O W) ∗ at_ (sendCell d (par h) c) (h / 2 + 1) ∗ slotAt d (par h) c (acc d h c)) -∗ WP c (k ⟨⟩) Q)
          -∗ WP c (.op (.waitDma2 (semAt (sS d) (par h)) (slot (buf d) (par (h + 1))) (slot (buf d) (par h)) e₁ e₂) k) Q) := by
  iintro ⟨#HC, Hc, HO, Ha⟩ Hk
  iapply (wp_wait_rest_token 𝒱₀ ER (theRd acc) (c : Thread nD τ) none (κ := K (sendCell d (par h) c))
      (wpE_waitDma2_eq 𝒱₀ (c : Thread nD τ) none Set.univ) (Set.mem_univ _) 0 (O := O) (W := W) (R := h / 2) (m := 0) (T := ∅)
      ((Nat.zero_add _).trans ((credit_slot d (par h)).trans (expect_send acc d h c hh).symm))) $$ [Hc HO Ha]
  · rw [credit_slot d (par h)]
    isplitr; · iapply (ctx_inv acc K (send_mem d (par h) c)); iexact HC
    isplitl [Hc]; · iexact Hc
    isplitl [HO]; · iexact HO
    isplitr; · iapply (may_left acc K c d h hO); iexact HC
    iexact Ha
  rw [rest_send acc d h c hh]; unfold sendPay
  iintro ⟨HO, Ha, Hr, Hp⟩
  iapply Hk
  isplitl [HO]; · iexists _; iexact HO
  isplitr [Hp]; · isplitl [Ha] <;> iassumption
  iexact Hp

include hh in
theorem wp_arrived {O : CellTallies nD τ sig ℕ} (hO : Above (lv (recvCell d (par (h + 1)) c) h) O) (W : Waits sig ℕ) {e₁ e₂} {k : PUnit → P F} :
    iprop(Ctx acc K ∗ cred (tallyAt (recvCell d (par (h + 1)) c) h N) ∗ owes (c : Thread nD τ) O W ∗ atPos ER (recvCell d (par (h + 1)) c) (h / 2) ∅ 0)
      ⊢ iprop((((∃ W, owes (c : Thread nD τ) O W) ∗ at_ (recvCell d (par (h + 1)) c) (h / 2 + 1) ∗ slotAt d (par (h + 1)) c (acc d h (nb (!d) c))
            ∗ extra d h c) -∗ WP c (k ⟨⟩) Q)
          -∗ WP c (.op (.waitDma2 (semAt (sR d) (par (h + 1))) (slot (buf d) (par h)) (slot (buf d) (par (h + 1))) e₁ e₂) k) Q) := by
  iintro ⟨#HC, Hc, HO, Ha⟩ Hk
  iapply (wp_wait_rest_token 𝒱₀ ER (theRd acc) (c : Thread nD τ) none (κ := K (recvCell d (par (h + 1)) c))
      (wpE_waitDma2_eq 𝒱₀ (c : Thread nD τ) none Set.univ) (Set.mem_univ _) h (O := O) (W := W) (R := h / 2) (m := 0) (T := ∅)
      ((Nat.zero_add _).trans ((credit_slot d (par (h + 1))).trans (expect_recv acc d h c hh).symm))) $$ [Hc HO Ha]
  · rw [credit_slot d (par (h + 1))]
    isplitr; · iapply (ctx_inv acc K (recv_mem d (par (h + 1)) c)); iexact HC
    isplitl [Hc]; · iexact Hc
    isplitl [HO]; · iexact HO
    isplitr; · iapply (may_arrived acc K c d h hh hO); iexact HC
    iexact Ha
  rw [rest_recv acc d h c hh]; unfold recvPay
  iintro ⟨HO, Ha, Hr, Hp, Hx⟩
  iapply Hk
  isplitl [HO]; · iexists _; iexact HO
  isplitl [Ha Hr]; · isplitl [Ha] <;> iassumption
  isplitl [Hp] <;> iassumption

end

end Cert.Ring

end
-- ==== Proof.Run.lean ====
/- One hop at a symbolic number, then all of them. -/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What travels -/

section
variable (X : Dev nD → S4096x128.Idx → Elt F .fp8e4m3) (Wt : Dev nD → S128x8192.Idx → Elt F .fp8e5m2)

/-- Block `e` of the rows of device `c`'s share of `x`. -/
def xrows (c e : Dev nD) : Vec F S128x128 .fp8e4m3 :=
  (xM.access (Rect.unit (s := S4096x128) (k0_off3 (wd e)) S128x128.size (chk3_wd e))).read (Elt F) (X c)
/-- The halves of device `c`'s share of `w`. -/
def wL (c : Dev nD) : Vec F S128x4096 .fp8e5m2 := (wM.access halfL).read (Elt F) (Wt c)
def wR (c : Dev nD) : Vec F S128x4096 .fp8e5m2 := (wM.access halfR).read (Elt F) (Wt c)

/-- The partial products of hop `h` on device `c`. -/
def part (d : Bool) (h : ℕ) (c : Dev nD) : FVec F S128x4096 .f32 :=
  match d with
  | true => k0_pay8 (k0_pay2 (wL Wt c)) (xrows X c (far true (h + 2) c))
  | false => k0_pay9 (k0_pay3 (wR Wt c)) (xrows X c (far false (h + 2) c))

/-- What device `c` sends at hop `h` in direction `d`. -/
def acc (d : Bool) : ℕ → Dev nD → Vec F S1x128x4096 .bf16
  | 0 => fun c => match d with
    | true => k0_pay4 (wL Wt c) (xrows X c (nb false c))
    | false => k0_pay6 (k0_pay5 (wR Wt c) (xrows X c (nb true c)))
  | h + 1 => fun c => match d with
    | true => k0_pay11 (part X Wt true h c) (k0_pay10 (acc d h (nb false c)))
    | false => k0_pay12 (part X Wt false h c) (acc d h (nb true c))

/-- The halves of the result on device `c`, `s` the product of the scales. -/
def outL (s : F .f32) (c : Dev nD) : FVec F S128x4096 .f32 := k0_pay141 s (part X Wt true 30 c) (k0_pay140 (acc X Wt true 30 (nb false c)))
def outR (s : F .f32) (c : Dev nD) : FVec F S128x4096 .f32 := k0_pay1 s (part X Wt false 30 c) (acc X Wt false 30 (nb true c))

/-! ## What a device holds before hop `h` -/

def Xin (c : Dev nD) : sProp 𝕄 := iprop((xM.view.loc (c : Thread nD τ)) ↦{fullShare} (X c))

/-- What pays for hop `j` in direction `d`: the duties of leaving and landing, and the right to wait for one landing here. -/
def ticket (d : Bool) (c : Dev nD) (j : ℕ) : sProp 𝕄 :=
  iprop(dutyTok ER (sendCell d (par j) c) (j / 2) true ∗ dutyTok ER (recvCell d (par (j + 1)) (nb d c)) (j / 2) true
    ∗ cred (tallyAt (recvCell d (par (j + 1)) c) j N))
def tickets (d : Bool) (h : ℕ) (c : Dev nD) : sProp 𝕄 := bigSep (Finset.Ico h 31) (ticket d c)

omit [FloatOps F] in
theorem tickets_step (d : Bool) (h : ℕ) (hh : h < 31) (c : Dev nD) : (tickets d h c : sProp 𝕄) = iprop(ticket d c h ∗ tickets d (h + 1) c) := by
  unfold tickets; rw [Ico_first hh, bigSep_insert first_notMem]; rfl

/-- Where device `c` stands on its four counters of direction `d` before hop `h`. -/
def seat (d : Bool) (h : ℕ) (c : Dev nD) : sProp 𝕄 :=
  iprop(at_ (sendCell d (par h) c) (h / 2) ∗ at_ (sendCell d (par (h + 1)) c) ((h + 1) / 2)
    ∗ at_ (recvCell d (par (h + 1)) c) (h / 2) ∗ at_ (recvCell d (par h) c) ((h + 1) / 2))

omit [FloatOps F] in
theorem seat_next (d : Bool) (h : ℕ) (c : Dev nD) :
    (seat d (h + 1) c : sProp 𝕄) = iprop(at_ (sendCell d (par (h + 1)) c) ((h + 1) / 2) ∗ at_ (sendCell d (par h) c) (h / 2 + 1)
      ∗ at_ (recvCell d (par h) c) ((h + 1) / 2) ∗ at_ (recvCell d (par (h + 1)) c) (h / 2 + 1)) := by
  unfold seat; rw [par_add_two, show (h + 1 + 1) / 2 = h / 2 + 1 by omega]

/-- The slot ahead that the next copy in direction `d` goes to. -/
def grant (h : ℕ) (c : Dev nD) : sProp 𝕄 :=
  iprop(slotAny true (par (h + 1)) (nb true c) ∗ reached ER (recvCell true (par (h + 1)) (nb true c)) (h / 2))

/-- What a device keeps beside the slots, the counters of the backward direction apart. -/
def Base (h : ℕ) (c : Dev nD) : sProp 𝕄 :=
  iprop(tickets true h c ∗ tickets false h c ∗ Tab c ∗ Xin X c ∗ ∃ W, owes (c : Thread nD τ) (owed h c) W)

/-- Before hop `h`. -/
def St (h : ℕ) (c : Dev nD) : sProp 𝕄 :=
  iprop(slotAt true (par h) c (acc X Wt true h c) ∗ slotAt false (par h) c (acc X Wt false h c) ∗ slotAny false (par (h + 1)) c ∗ grant h c
    ∗ seat true h c ∗ seat false h c ∗ Base X h c)

/-- The slot that is not handed on after the last forward copy. -/
def keep (h : ℕ) (c : Dev nD) : sProp 𝕄 := if h < 30 then iprop(emp) else slotAny true (par h) c

/-- After the first part of hop `h`. -/
def Mid (h : ℕ) (c : Dev nD) : sProp 𝕄 :=
  iprop(slotAt true (par (h + 1)) c (acc X Wt true h (nb false c)) ∗ keep h c ∗ cred (tallyAt (sendCell false (par h) c) 0 N)
    ∗ cred (tallyAt (recvCell false (par (h + 1)) c) h N) ∗ seat true (h + 1) c ∗ seat false h c ∗ Base X (h + 1) c)

omit [FloatOps F] in
theorem give_f (h : ℕ) (c : Dev nD) : iprop(slotAny false (par (h + 1)) c ∗ reached ER (recvCell false (par (h + 1)) c) (h / 2))
    ⊢ (extra true h (nb true c) : sProp 𝕄) := by
  unfold extra
  dsimp only
  rw [nb_ft]

omit [FloatOps F] in
theorem extra_false (h : ℕ) (c : Dev nD) (hh : h < 30) : (extra false h c : sProp 𝕄) ⊢ grant (h + 1) c := by
  unfold extra grant
  dsimp only
  rw [if_pos hh, par_add_two]

omit [FloatOps F] in
theorem give (h : ℕ) (c : Dev nD) : iprop(slotAny true (par h) c ∗ reached ER (recvCell true (par h) c) ((h + 1) / 2))
    ⊢ (iprop(extra false h (nb false c) ∗ keep h c) : sProp 𝕄) := by
  unfold extra keep
  dsimp only
  rw [nb_tf]
  split
  · iintro H; isplitl [H]; · iexact H
    iempintro
  · iintro ⟨H, Hr⟩
    isplitr [H] <;> first | iempintro | iexact H

omit [FloatOps F] in
theorem take_f (h : ℕ) (c : Dev nD) : (extra true h c : sProp 𝕄)
    ⊢ iprop(slotAny false (par (h + 1)) (nb false c) ∗ reached ER (recvCell false (par (h + 1)) (nb false c)) (h / 2)) := by
  unfold extra
  iintro H; iexact H

theorem St_next (h : ℕ) (c : Dev nD) :
    iprop(slotAt true (par (h + 1)) c (acc X Wt true (h + 1) c) ∗ slotAt false (par (h + 1)) c (acc X Wt false (h + 1) c) ∗ slotAny false (par h) c
      ∗ grant (h + 1) c ∗ seat true (h + 1) c ∗ seat false (h + 1) c ∗ tickets true (h + 1) c ∗ tickets false (h + 1) c ∗ Tab c ∗ Xin X c
      ∗ ∃ W, owes (c : Thread nD τ) (owed (h + 1) c) W) ⊢ St X Wt (h + 1) c := by
  unfold St Base
  rw [par_add_two]

variable (K : GSem nD τ sig → ℕ) (c : Dev nD) {Q : PUnit → sProp (MT nD τ sig ℕ (Elt F) ℕ UU ℕ)}

theorem wp_rows (e : Dev nD) {hv : ∀ a, (k0_off3 (wd e)) a + S128x128.size a ≤ S4096x128.size a} {hl}
    {k : Vec F S128x128 .fp8e4m3 → P F} :
    Xin X c ⊢ iprop((Xin X c -∗ WP c (k (xrows X c e)) Q)
      -∗ WP c (.op (.load xM (Rect.unit (s := S4096x128) (k0_off3 (wd e)) S128x128.size hv).toLoadRect hl) k) Q) := by
  unfold Xin
  iintro H Hk
  iapply (wp_load_rect 𝒱₀ (c : Thread nD τ) none Set.univ (m := xM) (r := Rect.unit (s := S4096x128) (k0_off3 (wd e)) S128x128.size hv)
    (S := Finset.univ) (Finset.subset_univ _)) $$ H
  iexact Hk

theorem dev1_nb (hw : k0_chk1 (wd (nb true c))) : (⟨k0_dev1 (wd (nb true c)), k0_dev1_lt _ hw⟩ : Dev nD) = nb true c := Fin.ext (dev1_wd _)
theorem dev2_nb (hw : k0_chk2 (wd (nb false c))) : (⟨k0_dev2 (wd (nb false c)), k0_dev2_lt _ hw⟩ : Dev nD) = nb false c := Fin.ext (dev2_wd _)

theorem wp_head (h : ℕ) (hh : h < 31) (hw1 : k0_chk1 (wd (nb true c))) (hw2 : k0_chk2 (wd (nb false c)))
    (k : FVec F S128x4096 .f32 → FVec F S128x4096 .f32 → P F) :
    iprop(Ctx (acc X Wt) K ∗ St X Wt h c) ⊢ iprop((Mid X Wt h c -∗ WP c (k (part X Wt true h c) (part X Wt false h c)) Q)
      -∗ WP c (head (wd (nb true c)) hw1 (wd (nb false c)) hw2 (k0_pay2 (wL Wt c)) (k0_pay3 (wR Wt c)) h hh k) Q) := by
  unfold head
  simp only [Prog.lift, Prog.bind_op, Prog.bind_ret, Prog.pure_eq_ret, Prog.bind_assoc]
  unfold St Mid Base grant
  rw [tickets_step true h hh c, tickets_step false h hh c, owed_step h hh c, seat_next]
  unfold ticket seat
  iintro ⟨#HC, Hf, Hb, Hb', ⟨Hg, #Hgr⟩, Hsf, Hsb, Htf, Htb, Htab, Hx, %W, HO⟩ Hk
  icases Htf with ⟨⟨Hd1, Hd2, Hcf⟩, Htf⟩
  icases Htb with ⟨⟨Hd3, Hd4, Hcb⟩, Htb⟩
  icases Hsf with ⟨⟨Ha1, #Hr1⟩, Ha2, ⟨Ha3, #Hr3⟩, ⟨Ha4, #Hr4⟩⟩
  icases Hsb with ⟨⟨Hb1, #Hs1⟩, Hb2, ⟨Hb3, #Hs3⟩, Hb4⟩
  -- the forward copy starts
  iapply (wp_start (acc X Wt) K c true h hh _ (dev1_nb c hw1) (owed (h + 1) c + tD false h c) W) $$ [Hf Hb' Hg HO Hd1 Hd2]
  · isplitr; · iexact HC
    isplitl [Hf]; · iexact Hf
    isplitl [Hg]; · iexact Hg
    isplitr; · iexact Hgr
    isplitl [Hb']
    · iapply (give_f h c)
      isplitl [Hb']; · iexact Hb'
      iexact Hs3
    isplitl [HO]; · iexact HO
    isplitl [Hd1]; · iexact Hd1
    isplitr; · iexact Hr1
    iexact Hd2
  iintro ⟨Hcs, HO⟩
  -- the two partial products
  iapply (wp_word c (2 + h) _ _ (tab_fwd c h hh)) $$ Htab
  iintro Htab
  iapply (wp_assume 𝒱₀ (c : Thread nD τ) none Set.univ (chk3_wd _))
  iapply (wp_rows X c (far true (h + 2) c)) $$ Hx
  iintro Hx
  iapply (wp_word c (33 + h) _ _ (tab_bwd c h)) $$ Htab
  iintro Htab
  iapply (wp_assume 𝒱₀ (c : Thread nD τ) none Set.univ (chk3_wd _))
  iapply (wp_rows X c (far false (h + 2) c)) $$ Hx
  iintro Hx
  -- the forward copy has left and arrived
  iapply (wp_left (acc X Wt) K c true h hh ((above_owed 0 (h + 1) (by omega) c).add (above_tD_f 0 h hh (by omega) c)) W) $$ [Hcs HO Ha1]
  · isplitr; · iexact HC
    isplitl [Hcs]; · iexact Hcs
    isplitl [HO] <;> iassumption
  iintro ⟨⟨%W1, HO⟩, Ha1, Hf⟩
  iapply (wp_arrived (acc X Wt) K c true h hh (by
    rw [lv_recv_t]; exact (above_owed (2 + 2 * h) (h + 1) (by omega) c).add (above_tD_f (2 + 2 * h) h hh (by omega) c)) W1) $$ [Hcf HO Ha3]
  · isplitr; · iexact HC
    isplitl [Hcf]; · iexact Hcf
    isplitl [HO] <;> iassumption
  iintro ⟨⟨%W2, HO⟩, Ha3, Hf', Hg⟩
  ihave Hg2 := (take_f (F := F) h c) $$ Hg
  icases Hg2 with ⟨Hg, #Hgr2⟩
  -- the backward copy starts
  ihave Hgk := (give (F := F) h c) $$ [Hf]
  · isplitl [Hf]; · iapply (slotAny_of (F := F)); iexact Hf
    iexact Hr4
  icases Hgk with ⟨Hx', Hkeep⟩
  iapply (wp_start (acc X Wt) K c false h hh _ (dev2_nb c hw2) (owed (h + 1) c) W2) $$ [Hb Hg Hx' HO Hd3 Hd4]
  · isplitr; · iexact HC
    isplitl [Hb]; · iexact Hb
    isplitl [Hg]; · iexact Hg
    isplitr; · iexact Hgr2
    isplitl [Hx']; · iexact Hx'
    isplitl [HO]; · iexact HO
    isplitl [Hd3]; · iexact Hd3
    isplitr; · iexact Hs1
    iexact Hd4
  iintro ⟨Hcs, HO⟩
  iapply Hk
  isplitl [Hf']; · iexact Hf'
  isplitl [Hkeep]; · iexact Hkeep
  isplitl [Hcs]; · iexact Hcs
  isplitl [Hcb]; · iexact Hcb
  isplitl [Ha1 Ha2 Ha3 Ha4]
  · isplitl [Ha2]; · iexact Ha2
    isplitl [Ha1]; · iexact Ha1
    isplitl [Ha4]; · isplitl [Ha4]; · iexact Ha4
                     iexact Hr4
    iexact Ha3
  isplitl [Hb1 Hb2 Hb3 Hb4]
  · isplitl [Hb1]; · isplitl [Hb1]; · iexact Hb1
                     iexact Hs1
    isplitl [Hb2]; · iexact Hb2
    isplitl [Hb3]; · isplitl [Hb3]; · iexact Hb3
                     iexact Hs3
    iexact Hb4
  isplitl [Htf]; · iexact Htf
  isplitl [Htb]; · iexact Htb
  isplitl [Htab]; · iexact Htab
  isplitl [Hx]; · iexact Hx
  iexists _; iexact HO

/-- After hop `h` but for the new sums: both slots of each direction that are here hold what left and what came. -/
def Back (h : ℕ) (c : Dev nD) : sProp 𝕄 :=
  iprop(slotAt false (par h) c (acc X Wt false h c) ∗ slotAt false (par (h + 1)) c (acc X Wt false h (nb true c)) ∗ extra false h c
    ∗ seat false (h + 1) c ∗ ∃ W, owes (c : Thread nD τ) (owed (h + 1) c) W)

theorem wp_back (h : ℕ) (hh : h < 31) (k : P F) :
    iprop(Ctx (acc X Wt) K ∗ cred (tallyAt (sendCell false (par h) c) 0 N) ∗ cred (tallyAt (recvCell false (par (h + 1)) c) h N)
        ∗ seat false h c ∗ (∃ W, owes (c : Thread nD τ) (owed (h + 1) c) W))
      ⊢ iprop((Back X Wt h c -∗ WP c k Q) -∗ WP c (backDone h k) Q) := by
  unfold backDone Back
  rw [seat_next]
  unfold seat
  simp only [Prog.lift, Prog.bind_op, Prog.bind_ret, Prog.pure_eq_ret, Prog.bind_assoc]
  iintro ⟨#HC, Hcs, Hcb, ⟨⟨Hb1, -⟩, Hb2, ⟨Hb3, -⟩, Hb4⟩, %W, HO⟩ Hk
  iapply (wp_left (acc X Wt) K c false h hh (above_owed 0 (h + 1) (by omega) c) W) $$ [Hcs HO Hb1]
  · isplitr; · iexact HC
    isplitl [Hcs]; · iexact Hcs
    isplitl [HO] <;> iassumption
  iintro ⟨⟨%W1, HO⟩, Hb1, Hb⟩
  iapply (wp_arrived (acc X Wt) K c false h hh (by rw [lv_recv_f]; exact above_owed (3 + 2 * h) (h + 1) (by omega) c) W1) $$ [Hcb HO Hb3]
  · isplitr; · iexact HC
    isplitl [Hcb]; · iexact Hcb
    isplitl [HO] <;> iassumption
  iintro ⟨HO, Hb3, Hb', Hx⟩
  iapply Hk
  isplitl [Hb]; · iexact Hb
  isplitl [Hb']; · iexact Hb'
  isplitl [Hx]; · iexact Hx
  isplitr [HO]
  · isplitl [Hb2]; · iexact Hb2
    isplitl [Hb1]; · iexact Hb1
    isplitl [Hb4]; · iexact Hb4
    iexact Hb3
  iexact HO

theorem wp_hop (h : ℕ) (hh : h < 31) (h30 : h < 30) (hw1 : k0_chk1 (wd (nb true c))) (hw2 : k0_chk2 (wd (nb false c))) (k : P F) :
    iprop(Ctx (acc X Wt) K ∗ St X Wt h c) ⊢ iprop((St X Wt (h + 1) c -∗ WP c k Q)
      -∗ WP c (hop (wd (nb true c)) hw1 (wd (nb false c)) hw2 (k0_pay2 (wL Wt c)) (k0_pay3 (wR Wt c)) h hh k) Q) := by
  unfold hop
  simp only [Prog.lift, Prog.bind_op, Prog.bind_ret, Prog.pure_eq_ret, Prog.bind_assoc]
  iintro ⟨#HC, HS⟩ Hk
  iapply (wp_head X Wt K c h hh hw1 hw2) $$ [HS]
  · isplitr; · iexact HC
    iexact HS
  unfold Mid Base
  iintro ⟨Hf, -, Hcs, Hcb, Hsf, Hsb, Htf, Htb, Htab, Hx, HO⟩
  iapply (wp_readSlot c true (par (h + 1)) _) $$ Hf
  iintro Hf
  iapply (wp_readSlot c true (par (h + 1)) _) $$ Hf
  iintro Hf
  iapply (wp_writeSlot c true (par (h + 1)) (acc X Wt true (h + 1) c)) $$ [Hf]
  · iapply (slotAny_of (F := F)); iexact Hf
  iintro Hf
  iapply (wp_back X Wt K c h hh) $$ [Hcs Hcb Hsb HO]
  · isplitr; · iexact HC
    isplitl [Hcs]; · iexact Hcs
    isplitl [Hcb]; · iexact Hcb
    isplitl [Hsb] <;> iassumption
  unfold Back
  iintro ⟨Hb, Hb', Hg, Hsb, HO⟩
  iapply (wp_readSlot c false (par (h + 1)) _) $$ Hb'
  iintro Hb'
  iapply (wp_readSlot c false (par (h + 1)) _) $$ Hb'
  iintro Hb'
  iapply (wp_writeSlot c false (par (h + 1)) (acc X Wt false (h + 1) c)) $$ [Hb']
  · iapply (slotAny_of (F := F)); iexact Hb'
  iintro Hb'
  iapply Hk
  ihave Hg := (extra_false (F := F) h c h30) $$ Hg
  iapply (St_next X Wt h c)
  isplitl [Hf]; · iexact Hf
  isplitl [Hb']; · iexact Hb'
  isplitl [Hb]; · iapply (slotAny_of (F := F)); iexact Hb
  isplitl [Hg]; · iexact Hg
  isplitl [Hsf]; · iexact Hsf
  isplitl [Hsb]; · iexact Hsb
  isplitl [Htf]; · iexact Htf
  isplitl [Htb]; · iexact Htb
  isplitl [Htab]; · iexact Htab
  isplitl [Hx]; · iexact Hx
  iexact HO

end
end Cert.Ring

end
-- ==== Proof.Body.lean ====
/- The printed body is `Ring.body`. -/
module

public import proofs.«01_k».proof.Proof.Hops

@[expose] public section

noncomputable section

namespace Cert.Ring

open Cert.KernelIdeal Cert.KernelIdeal.Gen
open Idealize.ShloMosaic Idealize.SL.Sem

variable {F : FTy → Type} [FloatOps F]

set_option maxRecDepth 100000 in
set_option maxHeartbeats 4000000 in
theorem body_eq : cc0_body (F := F) pM (Memref.isWhole_whole _) xM (Memref.isWhole_whole _) wM (Memref.isWhole_whole _) sxM (Memref.isWhole_whole _)
    swM (Memref.isWhole_whole _) oM (Memref.isWhole_whole _) fM fwhole bM bwhole cc0_scratch2 cc0_scratch3 cc0_scratch4 cc0_scratch5 = body (F := F) := rfl

end Cert.Ring

end
-- ==== Proof.Whole.lean ====
/- The last hop, all hops by induction, and the body from the barrier to the closed counters. -/
module

public import proofs.«01_k».proof.Proof.Run
public import proofs.«01_k».proof.Proof.Body
public import Idealize.ShloMosaic.Lib.Pointwise.Index
public import Idealize.ShloMosaic.Lib.Writes

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The two halves side by side. -/
def joinLR (l r : FVec F S128x4096 .f32) : S128x8192.Idx → Elt F .f32 := fun i =>
  if h : (i 1).val < 4096 then l (ix2 (i 0) ⟨(i 1).val, h⟩)
  else r (ix2 (i 0) ⟨(i 1).val - 4096, by have : (i 1).val < 8192 := (i 1).isLt; omega⟩)

theorem joinLR_left (l r : FVec F S128x4096 .f32) (x : S128x4096.Idx) : l x = joinLR l r (halfL.emb x) := by
  have e0 : (halfL.emb x 0).val = (x 0).val := by show 0 + 1 * (x 0).val = _; omega
  have e1 : (halfL.emb x 1).val = (x 1).val := by show 0 + 1 * (x 1).val = _; omega
  have h1 : (x 1).val < 4096 := (x 1).isLt
  unfold joinLR
  rw [dif_pos (by rw [e1]; exact h1)]
  congr 1; funext a; apply Fin.ext
  match a with
  | 0 => exact e0.symm
  | 1 => exact e1.symm

theorem joinLR_right (l r : FVec F S128x4096 .f32) (x : S128x4096.Idx) : r x = joinLR l r (halfR.emb x) := by
  have e0 : (halfR.emb x 0).val = (x 0).val := by show 0 + 1 * (x 0).val = _; omega
  have e1 : (halfR.emb x 1).val = 4096 + (x 1).val := by show 4096 + 1 * (x 1).val = _; omega
  unfold joinLR
  rw [dif_neg (by rw [e1]; omega)]
  congr 1; funext a; apply Fin.ext
  match a with
  | 0 => exact e0.symm
  | 1 => show (x 1).val = (halfR.emb x 1).val - 4096; rw [e1]; omega

theorem halves_cover (i : S128x8192.Idx) : i ∈ halfR.set ∨ i ∈ halfL.set := by
  have h0 : (i 0).val < 128 := (i 0).isLt
  have h1 : (i 1).val < 8192 := (i 1).isLt
  by_cases h : (i 1).val < 4096
  · refine Or.inr ((LoadRect.mem_set _).mpr fun a => ?_)
    match a with
    | 0 => exact ⟨(i 0).val, h0, by show (i 0).val = 0 + 1 * (i 0).val; omega⟩
    | 1 => exact ⟨(i 1).val, h, by show (i 1).val = 0 + 1 * (i 1).val; omega⟩
  · refine Or.inl ((LoadRect.mem_set _).mpr fun a => ?_)
    match a with
    | 0 => exact ⟨(i 0).val, h0, by show (i 0).val = 0 + 1 * (i 0).val; omega⟩
    | 1 => exact ⟨(i 1).val - 4096, by show (i 1).val - 4096 < 4096; omega, by show (i 1).val = 4096 + 1 * ((i 1).val - 4096); omega⟩

theorem two_pieces (f : S128x8192.Idx → Elt F .f32) (l r : FVec F S128x4096 .f32) (G : S128x8192.Idx → Elt F .f32)
    (hl : ∀ x : S128x4096.Idx, l x = G (halfL.emb x)) (hr : ∀ x : S128x4096.Idx, r x = G (halfR.emb x)) (i : S128x8192.Idx) :
    oM.view.read (Elt F) (oM.view.writes (Elt F) f [⟨halfR, r⟩, ⟨halfL, l⟩]) i = G i := by
  apply View.read_writes_apply_of_pieces
  · intro p hp
    rcases List.mem_cons.mp hp with rfl | hp
    · exact hr
    · rcases List.mem_cons.mp hp with rfl | hp
      · exact hl
      · exact absurd hp List.not_mem_nil
  · rcases halves_cover i with h | h
    · exact ⟨_, List.mem_cons_self, h⟩
    · exact ⟨_, List.mem_cons_of_mem _ List.mem_cons_self, h⟩

theorem writes_two (f : S128x8192.Idx → Elt F .f32) (l r : FVec F S128x4096 .f32) :
    (oM.access halfR).write (Elt F) ((oM.access halfL).write (Elt F) f l Finset.univ) r Finset.univ
      = oM.view.writes (Elt F) f [⟨halfR, r⟩, ⟨halfL, l⟩] := by
  rw [View.writes_cons, View.writes_cons]; rfl

omit [FloatOps F] in
theorem read_out (g : oM.view.ty.Contents (Elt F)) : oM.view.read (Elt F) g = g := rfl

/-- Both halves stored, the buffer is the two side by side whatever it held. -/
theorem write_both (f : S128x8192.Idx → Elt F .f32) (l r : FVec F S128x4096 .f32) :
    (oM.access halfR).write (Elt F) ((oM.access halfL).write (Elt F) f l Finset.univ) r Finset.univ = joinLR l r := by
  rw [writes_two]
  exact (read_out _).symm.trans (funext (two_pieces f l r (joinLR l r) (joinLR_left l r) (joinLR_right l r)))

omit [FloatOps F] in
theorem keep_last (c : Dev nD) : (keep 30 c : sProp 𝕄) ⊢ slotAny true 0 c := by
  unfold keep; rw [if_neg (by decide)]; exact Entails.refl _

section
variable (X : Dev nD → S4096x128.Idx → Elt F .fp8e4m3) (Wt : Dev nD → S128x8192.Idx → Elt F .fp8e5m2)

/-- The result's buffer on device `c`. -/
def Out (c : Dev nD) (f : S128x8192.Idx → Elt F .f32) : sProp 𝕄 := iprop((oM.view.loc (c : Thread nD τ)) ↦{fullShare} f)
def OutAny (c : Dev nD) : sProp 𝕄 := iprop(∃ f, Out c f)

/-- All four slots, at whatever they hold. -/
def Slots (c : Dev nD) : sProp 𝕄 := iprop(slotAny true 0 c ∗ slotAny true 1 c ∗ slotAny false 0 c ∗ slotAny false 1 c)

/-- After the last hop. -/
def Fin_ (s : F .f32) (c : Dev nD) : sProp 𝕄 :=
  iprop(Slots c ∗ seat true 31 c ∗ seat false 31 c ∗ Tab c ∗ Xin X c ∗ Out c (joinLR (outL X Wt s c) (outR X Wt s c))
    ∗ ∃ W, owes (c : Thread nD τ) 0 W)

variable (K : GSem nD τ sig → ℕ) (c : Dev nD) {Q : PUnit → sProp (MT nD τ sig ℕ (Elt F) ℕ UU ℕ)}

theorem wp_lastHop (s : F .f32) (hw1 : k0_chk1 (wd (nb true c))) (hw2 : k0_chk2 (wd (nb false c))) :
    iprop(Ctx (acc X Wt) K ∗ St X Wt 30 c ∗ OutAny c) ⊢ iprop((Fin_ X Wt s c -∗ Q ⟨⟩)
      -∗ WP c (lastHop (wd (nb true c)) hw1 (wd (nb false c)) hw2 (k0_pay2 (wL Wt c)) (k0_pay3 (wR Wt c)) s) Q) := by
  unfold lastHop
  simp only [Prog.lift, Prog.bind_op, Prog.bind_ret, Prog.pure_eq_ret, Prog.bind_assoc]
  unfold OutAny Out
  iintro ⟨#HC, HS, %f, Ho⟩ Hk
  iapply (wp_head X Wt K c 30 _ hw1 hw2) $$ [HS]
  · isplitr; · iexact HC
    iexact HS
  unfold Mid Base
  iintro ⟨Hf, Hkeep, Hcs, Hcb, Hsf, Hsb, -, -, Htab, Hx, HO⟩
  iapply (wp_readSlot c true (par (30 + 1)) _) $$ Hf
  iintro Hf
  iapply (wp_load_rect 𝒱₀ (c : Thread nD τ) none Set.univ (m := oM) (r := halfL) (S := Finset.univ) (Finset.subset_univ _)) $$ Ho
  iintro Ho
  iapply (wp_store 𝒱₀ (c : Thread nD τ) none Set.univ (m := oM) (r := halfL) (S := Finset.univ) (Finset.subset_univ _)) $$ Ho
  iintro Ho
  iapply (wp_back X Wt K c 30 (by decide)) $$ [Hcs Hcb Hsb HO]
  · isplitr; · iexact HC
    isplitl [Hcs]; · iexact Hcs
    isplitl [Hcb]; · iexact Hcb
    isplitl [Hsb] <;> iassumption
  unfold Back
  iintro ⟨Hb, Hb', -, Hsb, HO⟩
  iapply (wp_readSlot c false (par (30 + 1)) _) $$ Hb'
  iintro Hb'
  iapply (wp_load_rect 𝒱₀ (c : Thread nD τ) none Set.univ (m := oM) (r := halfR) (S := Finset.univ) (Finset.subset_univ _)) $$ Ho
  iintro Ho
  iapply (wp_store 𝒱₀ (c : Thread nD τ) none Set.univ (m := oM) (r := halfR) (S := Finset.univ) (Finset.subset_univ _)) $$ Ho
  iintro Ho
  rw [wp_ret]; imodintro
  iapply Hk
  unfold Fin_ Slots Out
  isplitl [Hf Hkeep Hb Hb']
  · isplitl [Hkeep]; · iapply (keep_last (F := F) c); iexact Hkeep
    isplitl [Hf]; · iapply (slotAny_of (F := F) true (par (30 + 1)) c); iexact Hf
    isplitl [Hb]; · iapply (slotAny_of (F := F) false (par 30) c); iexact Hb
    iapply (slotAny_of (F := F) false (par (30 + 1)) c); iexact Hb'
  isplitl [Hsf]; · iexact Hsf
  isplitl [Hsb]; · iexact Hsb
  isplitl [Htab]; · iexact Htab
  isplitl [Hx]; · iexact Hx
  isplitl [Ho]
  · rw [← write_both f (outL X Wt s c) (outR X Wt s c)]; iexact Ho
  iexact HO

theorem wp_hops (s : F .f32) (hw1 : k0_chk1 (wd (nb true c))) (hw2 : k0_chk2 (wd (nb false c))) (n : ℕ) (hn : n ≤ 30) :
    iprop(Ctx (acc X Wt) K ∗ St X Wt (30 - n) c ∗ OutAny c) ⊢ iprop((Fin_ X Wt s c -∗ Q ⟨⟩)
      -∗ WP c (hops (wd (nb true c)) hw1 (wd (nb false c)) hw2 (k0_pay2 (wL Wt c)) (k0_pay3 (wR Wt c)) s n) Q) := by
  induction n with
  | zero => exact wp_lastHop X Wt K c s hw1 hw2
  | succ n ih =>
    have ih' := ih (by omega)
    rw [show 30 - n = (29 - n) + 1 by omega] at ih'
    rw [show 30 - (n + 1) = 29 - n by omega]
    unfold hops
    iintro ⟨#HC, HS, Ho⟩ Hk
    iapply (wp_hop X Wt K c (29 - n) _ (by omega) hw1 hw2) $$ [HS]
    · isplitr; · iexact HC
      iexact HS
    iintro HS
    iapply ih' $$ [HS Ho]
    · isplitr; · iexact HC
      isplitl [HS] <;> iassumption
    iexact Hk

/-! ## The prologue -/

variable (sx sw : Dev nD → S1x1.Idx → Elt F .f32)

/-- The word of a one-word buffer. -/
def scal (M : Memref sig .tc .smem S1x1 .f32) (f : M.view.ty.Contents (Elt F)) : F .f32 :=
  (M.access (Rect.unit (s := S1x1) ![0, 0] S1x1.size inb_S1x1_S1x1_0_0)).read (Elt F) f (Shape.Idx.first (numel1_S1x1.symm ▸ Nat.one_pos))

def Win (c : Dev nD) : sProp 𝕄 := iprop((wM.view.loc (c : Thread nD τ)) ↦{fullShare} (Wt c))
def Sin (c : Dev nD) : sProp 𝕄 :=
  iprop(((sxM.view.loc (c : Thread nD τ)) ↦{fullShare} (sx c)) ∗ ((swM.view.loc (c : Thread nD τ)) ↦{fullShare} (sw c)))
/-- The product of the scales as the kernel takes it. -/
def scl (c : Dev nD) : F .f32 := k0_pay7 (scal sxM (sx c)) (scal swM (sw c))

theorem wp_scal (M : Memref sig .tc .smem S1x1 .f32) (f : M.view.ty.Contents (Elt F)) {k : F .f32 → P F} :
    ((M.view.loc (c : Thread nD τ)) ↦{fullShare} f : sProp 𝕄) ⊢ iprop((((M.view.loc (c : Thread nD τ)) ↦{fullShare} f) -∗ WP c (k (scal M f)) Q)
      -∗ WP c ((smemLoad M (Rect.unit (s := S1x1) ![0, 0] S1x1.size inb_S1x1_S1x1_0_0) numel1_S1x1 rfl).bind k) Q) := by
  iintro H Hk
  iapply (wp_load_rect 𝒱₀ (c : Thread nD τ) none Set.univ (m := M) (r := Rect.unit (s := S1x1) ![0, 0] S1x1.size inb_S1x1_S1x1_0_0) (S := Finset.univ)
    (Finset.subset_univ _)) $$ H
  iexact Hk

/-- The tokens a device spends at the barriers, and its own place there. -/
def BarPre (c : Dev nD) : sProp 𝕄 :=
  iprop(atPos ER (barCell c) 0 ∅ 0 ∗ cred (tallyAt (barCell c) 0 2) ∗ dutyTok ER (barCell (nb true c)) 0 false
    ∗ dutyTok ER (barCell (nb false c)) 0 true)

/-- Before the body. -/
def Pre (c : Dev nD) : sProp 𝕄 :=
  iprop(BarPre c ∗ Slots c ∗ seat true 0 c ∗ seat false 0 c ∗ tickets true 0 c ∗ tickets false 0 c
    ∗ Tab c ∗ Xin X c ∗ Win Wt c ∗ Sin sx sw c ∗ OutAny c ∗ ∃ W, owes (c : Thread nD τ) (O₀ c) W)

/-- After it. -/
def Post (c : Dev nD) : sProp 𝕄 :=
  iprop(atPos ER (barCell c) 1 ∅ 0 ∗ Win Wt c ∗ Sin sx sw c ∗ Fin_ X Wt (scl sx sw c) c)

theorem wp_toBar (b : Bool) (p n : Dev nD) (hn : n = p) (O : CellTallies nD τ sig ℕ) (W : Waits sig ℕ) {k : PUnit → P F} :
    iprop(Ctx (acc X Wt) K ∗ owes (c : Thread nD τ) (O + tallyAt (barCell p) 0 1) W ∗ dutyTok ER (barCell p) 0 b ∗ barPay b p)
      ⊢ iprop((owes (c : Thread nD τ) O W -∗ WP c (k ⟨⟩) Q) -∗ WP c (.op (.semSignal (Dev.tc n : Thread nD τ) barS 1) k) Q) := by
  subst hn
  iintro ⟨#HC, HO, Ht, Hp⟩
  iapply (wp_signal 𝒱₀ ER (theRd (acc X Wt)) (c : Thread nD τ) none (dst := (n : Thread nD τ)) (sem := barS) (r := 0) (d := b) (κ := K (barCell n))
    (by rw [duties_bar]; cases b <;> decide) (amount_bar (acc X Wt) n 0 b) 0 O rfl (W := W))
  isplitr; · iapply (ctx_inv (acc X Wt) K (bar_mem n)); iexact HC
  isplitl [HO]; · iexact HO
  isplitl [Ht]; · iexact Ht
  isplitl [Hp]; · rw [payload_bar]; iexact Hp
  iapply (ctx_bar (acc X Wt) K n); iexact HC

set_option maxRecDepth 20000 in
theorem may_bar : Ctx (acc X Wt) K ⊢ MayWait (c : Thread nD τ) (.reg barS) 0 (owed 0 c) :=
  (ctx_lev (acc X Wt) K).trans (mayWait c (.reg barS) 0 (by decide) (above_owed 1 0 (by decide) c) (lv_bar c 0).le)

theorem St_zero : iprop(slotAt true 0 c (acc X Wt true 0 c) ∗ slotAt false 0 c (acc X Wt false 0 c) ∗ slotAny false 1 c ∗ barPay true c
      ∗ seat true 0 c ∗ seat false 0 c ∗ tickets true 0 c ∗ tickets false 0 c ∗ Tab c ∗ Xin X c ∗ ∃ W, owes (c : Thread nD τ) (owed 0 c) W)
    ⊢ St X Wt 0 c := by
  unfold St Base grant barPay
  exact Entails.refl _

theorem bar_pay : iprop(slotAny true 1 c ∗ seat true 0 c) ⊢ (iprop(barPay true (nb false c) ∗ seat true 0 c) : sProp 𝕄) := by
  unfold barPay seat
  dsimp only
  rw [nb_tf]
  iintro ⟨Hs, H1, H2, ⟨H3, #Hr⟩, H4⟩
  isplitl [Hs]
  · isplitl [Hs]; · iexact Hs
    iexact Hr
  isplitl [H1]; · iexact H1
  isplitl [H2]; · iexact H2
  isplitl [H3]; · isplitl [H3]; · iexact H3
                  iexact Hr
  iexact H4

theorem wp_body (hP : (∀ u, Post X Wt sx sw c ⊢ Q u)) :
    iprop(Ctx (acc X Wt) K ∗ Pre X Wt sx sw c) ⊢ WP c (body (F := F)) Q := by
  unfold body prologue
  simp only [semSignalWord, semWaitWord, Prog.lift, Prog.bind_op, Prog.bind_ret, Prog.pure_eq_ret, Prog.bind_assoc]
  unfold Pre BarPre Slots Sin Win
  iintro ⟨#HC, ⟨HaB, HcB, Ht1, Ht2⟩, ⟨Hf0, Hf1, Hb0, Hb1⟩, Hsf, Hsb, Htf, Htb, Htab, Hx, Hw, ⟨Hsx, Hsw⟩, Ho, %W, HO⟩
  iapply (wp_word c 0 _ _ (tab_zero c)) $$ Htab
  iintro Htab
  iapply (wp_assume 𝒱₀ (c : Thread nD τ) none Set.univ (chk1_wd _))
  iapply (wp_word c 1 _ _ (tab_one c)) $$ Htab
  iintro Htab
  iapply (wp_assume 𝒱₀ (c : Thread nD τ) none Set.univ (chk2_wd _))
  ihave Hbp := (bar_pay (F := F) c) $$ [Hf1 Hsf]
  · isplitl [Hf1] <;> iassumption
  icases Hbp with ⟨Hbp, Hsf⟩
  iapply (wp_toBar X Wt K c false (nb true c) _ (dev1_nb c (chk1_wd _)) (owed 0 c + tallyAt (barCell (nb false c)) 0 1) W) $$ [HO Ht1]
  · isplitr; · iexact HC
    isplitl [HO]; · iexact HO
    isplitl [Ht1]; · iexact Ht1
    unfold barPay; iempintro
  iintro HO
  iapply (wp_toBar X Wt K c true (nb false c) _ (dev2_nb c (chk2_wd _)) (owed 0 c) W) $$ [HO Ht2 Hbp]
  · isplitr; · iexact HC
    isplitl [HO]; · iexact HO
    isplitl [Ht2]; · iexact Ht2
    iexact Hbp
  iintro HO
  iapply (wp_wait_rest_token 𝒱₀ ER (theRd (acc X Wt)) (c : Thread nD τ) none (κ := K (barCell c))
      (wpE_semWait_eq 𝒱₀ (c : Thread nD τ) none Set.univ) (Set.mem_univ _) 0 (O := owed 0 c) (W := W) (R := 0) (m := 0) (T := ∅)
      ((Nat.zero_add _).trans (expect_bar (acc X Wt) c).symm)) $$ [HcB HO HaB]
  · isplitr; · iapply (ctx_inv (acc X Wt) K (bar_mem c)); iexact HC
    isplitl [HcB]; · iexact HcB
    isplitl [HO]; · iexact HO
    isplitr; · iapply (may_bar X Wt K c); iexact HC
    iexact HaB
  rw [rest_bar]
  iintro ⟨HO, HaB, -, Hg, -⟩
  iapply (wp_load_rect 𝒱₀ (c : Thread nD τ) none Set.univ (m := wM) (r := halfL) (S := Finset.univ) (Finset.subset_univ _)) $$ Hw
  iintro Hw
  iapply (wp_load_rect 𝒱₀ (c : Thread nD τ) none Set.univ (m := wM) (r := halfR) (S := Finset.univ) (Finset.subset_univ _)) $$ Hw
  iintro Hw
  iapply (wp_rows X c (nb false c)) $$ Hx
  iintro Hx
  ihave Hf0' := (slotAt_any (F := F) c true 0) $$ Hf0
  icases Hf0' with ⟨%u, Hf0⟩
  iapply (wp_readSlot c true 0 _) $$ Hf0
  iintro Hf0
  iapply (wp_writeSlot c true 0 (acc X Wt true 0 c)) $$ [Hf0]
  · iapply (slotAny_of (F := F)); iexact Hf0
  iintro Hf0
  iapply (wp_rows X c (nb true c)) $$ Hx
  iintro Hx
  ihave Hb0' := (slotAt_any (F := F) c false 0) $$ Hb0
  icases Hb0' with ⟨%u', Hb0⟩
  iapply (wp_readSlot c false 0 _) $$ Hb0
  iintro Hb0
  iapply (wp_writeSlot c false 0 (acc X Wt false 0 c)) $$ [Hb0]
  · iapply (slotAny_of (F := F)); iexact Hb0
  iintro Hb0
  iapply (wp_scal c sxM (sx c)) $$ Hsx
  iintro Hsx
  iapply (wp_scal c swM (sw c)) $$ Hsw
  iintro Hsw
  iapply (wp_hops X Wt K c (scl sx sw c) (chk1_wd _) (chk2_wd _) 30 le_rfl) $$ [Hf0 Hb0 Hb1 Hg Hsf Hsb Htf Htb Htab Hx HO Ho]
  · isplitr; · iexact HC
    isplitr [Ho]
    · iapply (St_zero X Wt c)
      isplitl [Hf0]; · iexact Hf0
      isplitl [Hb0]; · iexact Hb0
      isplitl [Hb1]; · iexact Hb1
      isplitl [Hg]; · iexact Hg
      isplitl [Hsf]; · iexact Hsf
      isplitl [Hsb]; · iexact Hsb
      isplitl [Htf]; · iexact Htf
      isplitl [Htb]; · iexact Htb
      isplitl [Htab]; · iexact Htab
      isplitl [Hx]; · iexact Hx
      iexists _; iexact HO
    iexact Ho
  iintro Hfin
  iapply (hP ⟨⟩)
  unfold Post Win Sin
  isplitl [HaB]; · iexact HaB
  isplitl [Hw]; · iexact Hw
  isplitl [Hsx Hsw]; · isplitl [Hsx] <;> iassumption
  iexact Hfin

end
end Cert.Ring

end
-- ==== Proof.Slots.lean ====
/-
  The two halves' buffers as slots, and the eight counters of a device opened before the body and closed after it.
-/
module

public import proofs.«01_k».proof.Proof.Whole
public import Idealize.ShloMosaic.Lib.ViewIndex

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A buffer is its two slots -/

/-- A direction's whole buffer on device `c`. -/
def whole (d : Bool) (c : Dev nD) : sProp 𝕄 :=
  iprop(∃ f : Buf (Elt F) ((buf d).view.loc (c : Thread nD τ)), ((buf d).view.loc (c : Thread nD τ)) ↦{fullShare} f)

theorem mem_slotR (i : Fin 2) (x : S2x128x4096.Idx) : x ∈ (slotR i).set ↔ (x 0).val = i.val := by
  refine (LoadRect.mem_set _).trans ⟨fun h => ?_, fun h a => ?_⟩
  · obtain ⟨k, hk, e⟩ := h 0
    have hk' : k < 1 := hk
    have e' : (x 0).val = i.val + 1 * k := e
    omega
  · have h1 : (x 1).val < 128 := (x 1).isLt
    have h2 : (x 2).val < 4096 := (x 2).isLt
    match a with
    | 0 => exact ⟨0, Nat.one_pos, by show (x 0).val = i.val + 1 * 0; omega⟩
    | 1 => exact ⟨(x 1).val, h1, by show (x 1).val = 0 + 1 * (x 1).val; omega⟩
    | 2 => exact ⟨(x 2).val, h2, by show (x 2).val = 0 + 1 * (x 2).val; omega⟩

theorem set_slot (d : Bool) (i : Fin 2) (c : Dev nD) (x : Idx ((buf d).view.loc (c : Thread nD τ))) :
    x ∈ (slot (buf d) i).view.set ↔ x ∈ ((buf d).view.slice (slotR i)).set := by rw [← slot_set]

theorem mem_slot_t (i : Fin 2) (x : S2x128x4096.Idx) : x ∈ (slot fM i).view.set ↔ (x 0).val = i.val := by
  rw [← slot_set true i, ← mem_slotR]
  show x ∈ (fM.view.slice (slotR i)).set ↔ _
  rw [View.set_slice]
  exact ⟨fun h => by obtain ⟨y, hy, rfl⟩ := Finset.mem_map.mp h; exact hy, fun h => Finset.mem_map.mpr ⟨x, h, rfl⟩⟩
theorem mem_slot_f (i : Fin 2) (x : S2x128x4096.Idx) : x ∈ (slot bM i).view.set ↔ (x 0).val = i.val := by
  rw [← slot_set false i, ← mem_slotR]
  show x ∈ (bM.view.slice (slotR i)).set ↔ _
  rw [View.set_slice]
  exact ⟨fun h => by obtain ⟨y, hy, rfl⟩ := Finset.mem_map.mp h; exact hy, fun h => Finset.mem_map.mpr ⟨x, h, rfl⟩⟩

theorem rest_t : (Finset.univ : Finset S2x128x4096.Idx) \ (slot fM 0).view.set = (slot fM 1).view.set := by
  ext x
  have h : (x 0).val < 2 := (x 0).isLt
  rw [Finset.mem_sdiff, mem_slot_t, mem_slot_t]
  exact ⟨fun e => by have e2 : ¬(x 0).val = 0 := e.2; show (x 0).val = 1; omega,
    fun e => ⟨Finset.mem_univ _, by have e' : (x 0).val = 1 := e; show ¬(x 0).val = 0; omega⟩⟩
theorem rest_f : (Finset.univ : Finset S2x128x4096.Idx) \ (slot bM 0).view.set = (slot bM 1).view.set := by
  ext x
  have h : (x 0).val < 2 := (x 0).isLt
  rw [Finset.mem_sdiff, mem_slot_f, mem_slot_f]
  exact ⟨fun e => by have e2 : ¬(x 0).val = 0 := e.2; show (x 0).val = 1; omega,
    fun e => ⟨Finset.mem_univ _, by have e' : (x 0).val = 1 := e; show ¬(x 0).val = 0; omega⟩⟩

omit [FloatOps F] in
theorem whole_split (d : Bool) (c : Dev nD) : (whole d c : sProp 𝕄) ⊢ iprop(slotAny d 0 c ∗ slotAny d 1 c) := by
  unfold whole slotAny
  cases d
  · iintro ⟨%f, H⟩
    ihave H' := (pointsTo_split_subset (f := f) (q := fullShare) (Finset.subset_univ (slot bM 0).view.set)).1 $$ H
    icases H' with ⟨H0, H1⟩
    isplitl [H0]; · iexists f; iexact H0
    iexists f
    iapply (Entails.of_eq (congrArg (fun S => (pointsTo (bM.view.loc (c : Thread nD τ)) S fullShare f : sProp 𝕄)) rest_f)); iexact H1
  · iintro ⟨%f, H⟩
    ihave H' := (pointsTo_split_subset (f := f) (q := fullShare) (Finset.subset_univ (slot fM 0).view.set)).1 $$ H
    icases H' with ⟨H0, H1⟩
    isplitl [H0]; · iexists f; iexact H0
    iexists f
    iapply (Entails.of_eq (congrArg (fun S => (pointsTo (fM.view.loc (c : Thread nD τ)) S fullShare f : sProp 𝕄)) rest_t)); iexact H1

omit [FloatOps F] in
theorem whole_join (d : Bool) (c : Dev nD) : iprop(slotAny d 0 c ∗ slotAny d 1 c) ⊢ (whole d c : sProp 𝕄) := by
  unfold whole slotAny
  cases d
  · iintro ⟨⟨%f, H0⟩, %g, H1⟩
    ihave H1' := (Entails.of_eq (congrArg (fun S => (pointsTo (bM.view.loc (c : Thread nD τ)) S fullShare g : sProp 𝕄)) rest_f.symm)) $$ H1
    iexists _
    iapply (pointsTo_join_subset (f := g) (g := f) (q := fullShare) (Finset.subset_univ (slot bM 0).view.set))
    isplitl [H0]; · iexact H0
    iexact H1'
  · iintro ⟨⟨%f, H0⟩, %g, H1⟩
    ihave H1' := (Entails.of_eq (congrArg (fun S => (pointsTo (fM.view.loc (c : Thread nD τ)) S fullShare g : sProp 𝕄)) rest_t.symm)) $$ H1
    iexists _
    iapply (pointsTo_join_subset (f := g) (g := f) (q := fullShare) (Finset.subset_univ (slot fM 0).view.set))
    isplitl [H0]; · iexact H0
    iexact H1'

/-! ## The counters -/

/-- The four counters of a direction. -/
def four (Φ : GSem nD τ sig → sProp 𝕄) (d : Bool) (c : Dev nD) : sProp 𝕄 :=
  iprop(Φ (sendCell d 0 c) ∗ Φ (sendCell d 1 c) ∗ Φ (recvCell d 0 c) ∗ Φ (recvCell d 1 c))

section
variable (A : Bool → ℕ → Dev nD → Vec F S1x128x4096 .bf16) (K : GSem nD τ sig → ℕ) (c : Dev nD)

theorem open_one (g : GSem nD τ sig) (hg : g ∈ barCells ∪ copyCells) :
    iprop(Ctx A K ∗ openTok ER g ∗ semVal g 0) ⊢ (|={Set.univ}=> at_ g 0 : sProp 𝕄) := by
  iintro ⟨#HC, Ho, Hs⟩
  iapply (Rounds.cell_open ER (theRd A) (g := g) (Set.mem_univ (K g)))
  isplitr; · iapply (ctx_inv A K hg); iexact HC
  isplitl [Ho] <;> iassumption

theorem close_one (g : GSem nD τ sig) (hg : g ∈ barCells ∪ copyCells) (R : ℕ) (h : ∀ r, R ≤ r → (theRd A).duties g r = ∅) :
    iprop(Ctx A K ∗ atPos ER g R ∅ 0) ⊢ (|={Set.univ}=> semVal g 0 : sProp 𝕄) := by
  iintro ⟨#HC, Ha⟩
  iapply (Rounds.cell_close ER (theRd A) (Set.mem_univ (K g)) id h)
  isplitr; · iapply (ctx_inv A K hg); iexact HC
  iexact Ha

theorem open_four (d : Bool) : iprop(Ctx A K ∗ four (openTok ER) d c ∗ four (fun g => semVal g 0) d c) ⊢ (|={Set.univ}=> seat d 0 c : sProp 𝕄) := by
  unfold four seat
  iintro ⟨#HC, ⟨O1, O2, O3, O4⟩, S1, S2, S3, S4⟩
  imod (open_one A K (sendCell d 0 c) (send_mem d 0 c)) $$ [O1 S1] with H1
  · isplitr; · iexact HC
    isplitl [O1] <;> iassumption
  imod (open_one A K (sendCell d 1 c) (send_mem d 1 c)) $$ [O2 S2] with H2
  · isplitr; · iexact HC
    isplitl [O2] <;> iassumption
  imod (open_one A K (recvCell d 0 c) (recv_mem d 0 c)) $$ [O3 S3] with H3
  · isplitr; · iexact HC
    isplitl [O3] <;> iassumption
  imod (open_one A K (recvCell d 1 c) (recv_mem d 1 c)) $$ [O4 S4] with H4
  · isplitr; · iexact HC
    isplitl [O4] <;> iassumption
  imodintro
  isplitl [H1]; · iexact H1
  isplitl [H2]; · iexact H2
  isplitl [H4]; · iexact H4
  iexact H3

theorem close_four (d : Bool) : iprop(Ctx A K ∗ seat d 31 c) ⊢ (|={Set.univ}=> four (fun g => semVal g 0) d c : sProp 𝕄) := by
  unfold four seat
  iintro ⟨#HC, ⟨H1, -⟩, ⟨H2, -⟩, ⟨H3, -⟩, ⟨H4, -⟩⟩
  imod (close_one A K (sendCell d 1 c) (send_mem d 1 c) 15 (fun r hr => no_send A d c 1 r (by show 31 ≤ 2 * r + 1; omega))) $$ [H1] with S1
  · isplitr; · iexact HC
    iexact H1
  imod (close_one A K (sendCell d 0 c) (send_mem d 0 c) 16 (fun r hr => no_send A d c 0 r (by show 31 ≤ 2 * r + 0; omega))) $$ [H2] with S2
  · isplitr; · iexact HC
    iexact H2
  imod (close_one A K (recvCell d 0 c) (recv_mem d 0 c) 15 (fun r hr => no_recv A d c 0 r (by show 31 ≤ 2 * r + 1 - 0; omega))) $$ [H3] with S3
  · isplitr; · iexact HC
    iexact H3
  imod (close_one A K (recvCell d 1 c) (recv_mem d 1 c) 16 (fun r hr => no_recv A d c 1 r (by show 31 ≤ 2 * r + 1 - 1; omega))) $$ [H4] with S4
  · isplitr; · iexact HC
    iexact H4
  imodintro
  isplitl [S2]; · iexact S2
  isplitl [S1]; · iexact S1
  isplitl [S3] <;> iassumption

end

/-! ## A device's own counters in one family -/

/-- Counter: leaving or arriving, direction, slot. -/
abbrev Own : Type := Bool × Bool × Fin 2
def osem (x : Own) : SemLoc sig := .dma (semAt (if x.1 then sS x.2.1 else sR x.2.1) x.2.2)

theorem osem_inj : Function.Injective osem := by decide

omit [FloatOps F] in
theorem own_eq (Φ : GSem nD τ sig → sProp 𝕄) (c : Dev nD) :
    bigSep Finset.univ (fun x : Own => Φ ((c : Thread nD τ), osem x)) = iprop(four Φ true c ∗ four Φ false c) := by
  rw [bigSep_univ_eq_bigSepL [(true, true, 0), (true, true, 1), (false, true, 0), (false, true, 1), (true, false, 0), (true, false, 1), (false, false, 0), (false, false, 1)]
    (by decide) (by decide)]
  unfold four
  refine BI.equiv_iff.mp ⟨?_, ?_⟩
  · change iprop(Φ (sendCell true 0 c) ∗ Φ (sendCell true 1 c) ∗ Φ (recvCell true 0 c) ∗ Φ (recvCell true 1 c) ∗ Φ (sendCell false 0 c) ∗ Φ (sendCell false 1 c) ∗ Φ (recvCell false 0 c) ∗ Φ (recvCell false 1 c)) ⊢ iprop((Φ (sendCell true 0 c) ∗ Φ (sendCell true 1 c) ∗ Φ (recvCell true 0 c) ∗ Φ (recvCell true 1 c)) ∗ Φ (sendCell false 0 c) ∗ Φ (sendCell false 1 c) ∗ Φ (recvCell false 0 c) ∗ Φ (recvCell false 1 c))
    iintro ⟨H1, H2, H3, H4, H5, H6, H7, H8⟩
    isplitl [H1 H2 H3 H4]
    · isplitl [H1]; · iexact H1
      isplitl [H2]; · iexact H2
      isplitl [H3] <;> iassumption
    isplitl [H5]; · iexact H5
    isplitl [H6]; · iexact H6
    isplitl [H7] <;> iassumption
  · change iprop((Φ (sendCell true 0 c) ∗ Φ (sendCell true 1 c) ∗ Φ (recvCell true 0 c) ∗ Φ (recvCell true 1 c)) ∗ Φ (sendCell false 0 c) ∗ Φ (sendCell false 1 c) ∗ Φ (recvCell false 0 c) ∗ Φ (recvCell false 1 c)) ⊢ iprop(Φ (sendCell true 0 c) ∗ Φ (sendCell true 1 c) ∗ Φ (recvCell true 0 c) ∗ Φ (recvCell true 1 c) ∗ Φ (sendCell false 0 c) ∗ Φ (sendCell false 1 c) ∗ Φ (recvCell false 0 c) ∗ Φ (recvCell false 1 c))
    iintro ⟨⟨H1, H2, H3, H4⟩, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7] <;> iassumption

end Cert.Ring

end
-- ==== Proof.Host.lean ====
/-
  What the lines before the kernel leave in the table: word `j` of device `c`'s table is `tab c j`.
-/
module

public import proofs.«01_k».proof.Proof.Steps
public import proofs.«01_k».proof.Proof.Gen.KernelIdeal.Regions
public import Idealize.ShloMosaic.Lib.StableHlo.RunRead

@[expose] public section

set_option maxRecDepth 4000

noncomputable section

namespace Cert.Ring

open Cert.KernelIdeal Cert.KernelIdeal.Gen
open Idealize.ShloMosaic
open Idealize.ShloMosaic.TcCoe
open Idealize.SL Idealize.SL.Sem
open Idealize.ShloMosaic.StableHlo (after)

variable {F : FTy → Type} [FloatOps F]

/-! ## One word at a time -/

/-- The remainder by 32 with the divisor's sign, as the lines compute it. -/
def modw (a : BitVec 32) : BitVec 32 :=
  let y := Scalar.select (IntOp.cmpi .eq 32#32 0#32) 1#32 32#32
  let r := IntOp.remsi .host a y
  Scalar.select (IntOp.cmpi .ne (IntOp.cmpi .slt r 0#32) (IntOp.cmpi .slt y 0#32) &&& IntOp.cmpi .ne r 0#32) (r + y) r

/-- A negative index counted from the end. -/
def wrap (a : BitVec 32) : BitVec 32 := Scalar.select (IntOp.cmpi .slt a 0#32) (a + 32#32) a

/-- An index read signed and clamped into the cycle's table. -/
def clampIdx (a : BitVec 32) : Fin 32 := ⟨(max 0 (min a.toInt 31)).toNat, by omega⟩

section
variable (V : Valuation τ sig (Elt F)) (a : BitVec 32)

theorem rem_next (h1 : V main_v11 = (fun _ => a : S_.Idx → BitVec 32)) (h2 : V main_c_6 = (fun _ => 32#32 : S_.Idx → BitVec 32)) :
    after (hostOps0_1 (F := F)) V main_v12 = (fun _ => modw a : S_.Idx → BitVec 32) := by
  after_reads_simp
  rw [h1, h2]
  rfl

theorem rem_prev (h1 : V main_v18 = (fun _ => a : S_.Idx → BitVec 32)) (h2 : V main_c_10 = (fun _ => 32#32 : S_.Idx → BitVec 32)) :
    after (hostOps0_3 (F := F)) V main_v19 = (fun _ => modw a : S_.Idx → BitVec 32) := by
  after_reads_simp
  rw [h1, h2]
  rfl

variable (v : S31.Idx → BitVec 32)

theorem rem_fwd (h1 : V main_v30 = v) (h2 : V main_c_14 = (fun _ => 32#32 : S_.Idx → BitVec 32)) :
    after (hostOps0_5 (F := F)) V main_v31 = (fun j => modw (v j) : S31.Idx → BitVec 32) := by
  after_reads_simp
  rw [h1, h2]
  rfl

theorem rem_bwd (h1 : V main_v41 = v) (h2 : V main_c_18 = (fun _ => 32#32 : S_.Idx → BitVec 32)) :
    after (hostOps0_7 (F := F)) V main_v42 = (fun j => modw (v j) : S31.Idx → BitVec 32) := by
  after_reads_simp
  rw [h1, h2]
  rfl

end

/-! ## The lookups -/

/-- The cycle's table, or its inverse's, read at one word. -/
def look (x : Fin 32 → BitVec 32) (a : BitVec 32) : BitVec 32 :=
  shapeCast S_ (Host.dynamicSlice S1 (fun i : S32.Idx => x (S32.rowMajor i)) (fun _ => a.toInt) sliceFits_S32_S1) shapeCasts_S1_S_ (Shape.Idx.first h_S_)
theorem look_of (x : Fin 32 → BitVec 32) (a : BitVec 32) (s : Fin 1 → Int) (hs : ∀ k, s k = a.toInt) (j : S_.Idx) :
    shapeCast S_ (Host.dynamicSlice S1 (fun i : S32.Idx => x (S32.rowMajor i)) s sliceFits_S32_S1) shapeCasts_S1_S_ j = look x a := by
  obtain rfl : j = Shape.Idx.first h_S_ := Subsingleton.elim _ _
  obtain rfl : s = fun _ => a.toInt := funext hs
  rfl
/-- The cycle's table read at 31 words at once. -/
def pick (w : S31.Idx → BitVec 32) : S31.Idx → BitVec 32 :=
  Host.gather gather_S32_S31x1_S31_n_0_n_n_0_1_1 (fun i : S32.Idx => lit0 (S32.rowMajor i)) (broadcastInDim S31x1 ![0] bcast_S31_S31x1_0 w)
/-- A device's place, as the lines compute it from its number. -/
def place (c : Dev nD) : BitVec 32 := look lit1 (wrap (IntOp.remui .host (IntOp.divui .host (Dev.word c) 1#32) 32#32))

abbrev one (a : BitVec 32) : S_.Idx → BitVec 32 := fun _ => a
abbrev step31 : S31.Idx → BitVec 32 := iotaInDim S31 32 0

section
variable (V : Valuation τ sig (Elt F))

theorem ops0_c (c : Dev nD) : after (hostOps0 (F := F) c) V main_c = (fun i => lit0 (S32.rowMajor i) : S32.Idx → BitVec 32) := by
  after_reads_simp
  rfl
theorem ops0_v7 (c : Dev nD) : StableHlo.upto (hostOps0 (F := F) c) V 13 main_v7 = one (wrap (IntOp.remui .host (IntOp.divui .host (Dev.word c) 1#32) 32#32)) := by
  after_reads_simp
  rfl
theorem ops0_v9 (c : Dev nD) : after (hostOps0 (F := F) c) V main_v9 = one (place c) := by
  have e := ops0_v7 V c
  after_reads_simp
  funext j
  exact look_of lit1 _ _ (fun k => by obtain rfl := Fin.fin_one_eq_zero k; exact congrArg (fun w : S_.Idx → BitVec 32 => (w (Shape.Idx.first h_S_)).toInt) e) j
theorem ops0_v10 (c : Dev nD) : after (hostOps0 (F := F) c) V main_v10 = step31 := by
  after_reads_simp
theorem ops0_v11 (c : Dev nD) : after (hostOps0 (F := F) c) V main_v11 = one (place c + 1#32) := by
  have e := ops0_v7 V c
  after_reads_simp
  funext j
  exact congrArg (fun a : BitVec 32 => a + 1#32)
    (look_of lit1 _ _ (fun k => by obtain rfl := Fin.fin_one_eq_zero k; exact congrArg (fun w : S_.Idx → BitVec 32 => (w (Shape.Idx.first h_S_)).toInt) e) j)
theorem ops0_c6 (c : Dev nD) : after (hostOps0 (F := F) c) V main_c_6 = one 32#32 := by
  after_reads_simp
  rfl

variable (a p : BitVec 32)
theorem ops2_v17 (h1 : V main_v12 = one a) (h2 : V main_c = (fun i => lit0 (S32.rowMajor i) : S32.Idx → BitVec 32)) :
    after (hostOps0_2 (F := F)) V main_v17 = one (look lit0 (wrap a)) := by
  have e : StableHlo.upto (hostOps0_2 (F := F)) V 5 main_v15 = one (wrap a) := by
    after_reads_simp
    rw [h1]
    rfl
  after_reads_simp
  rw [h2]
  funext j
  exact look_of lit0 _ _ (fun k => by obtain rfl := Fin.fin_one_eq_zero k; exact congrArg (fun w : S_.Idx → BitVec 32 => (w (Shape.Idx.first h_S_)).toInt) e) j
theorem ops2_v18 (h1 : V main_v9 = one p) : after (hostOps0_2 (F := F)) V main_v18 = one (p - 1#32) := by
  after_reads_simp
  rw [h1]
  rfl
theorem ops2_c10 : after (hostOps0_2 (F := F)) V main_c_10 = one 32#32 := by
  after_reads_simp
  rfl

/-- The first two words. -/
def head2 (a b : BitVec 32) : S2.Idx → BitVec 32 :=
  concatenate S2 0 [⟨S1, broadcastInDim S1 ![] bcast_S_S1 (one a)⟩, ⟨S1, broadcastInDim S1 ![] bcast_S_S1 (one b)⟩] concatenates_S1_S1_S2_d0

theorem ops4_v27 (b : BitVec 32) (h1 : V main_v19 = one a) (h2 : V main_c = (fun i => lit0 (S32.rowMajor i) : S32.Idx → BitVec 32)) (h3 : V main_v17 = one b) :
    after (hostOps0_4 (F := F)) V main_v27 = head2 b (look lit0 (wrap a)) := by
  after_reads_simp
  refine congrArg₂ (fun x y : S1.Idx → BitVec 32 => concatenate S2 0 [⟨S1, x⟩, ⟨S1, y⟩] concatenates_S1_S1_S2_d0) ?_ ?_
  · after_reads_simp
    rw [h3]
  · have e : StableHlo.upto (hostOps0_4 (F := F)) V 5 main_v22 = one (wrap a) := by
      after_reads_simp
      rw [h1]
      rfl
    after_reads_simp
    rw [h2]
    refine congrArg (broadcastInDim S1 ![] bcast_S_S1) (funext fun j : S_.Idx => ?_)
    exact look_of lit0 _ _ (fun k => by obtain rfl := Fin.fin_one_eq_zero k; exact congrArg (fun w : S_.Idx → BitVec 32 => (w (Shape.Idx.first h_S_)).toInt) e) j
theorem ops4_v30 (h1 : V main_v9 = one p) (h2 : V main_v10 = step31) :
    after (hostOps0_4 (F := F)) V main_v30 = (fun j => p - 2#32 - step31 j : S31.Idx → BitVec 32) := by
  after_reads_simp
  rw [h1, h2]
  rfl
theorem ops4_c14 : after (hostOps0_4 (F := F)) V main_c_14 = one 32#32 := by
  after_reads_simp
  rfl

variable (v : S31.Idx → BitVec 32)
theorem ops6_v38 (h1 : V main_v31 = v) (h2 : V main_c = (fun i => lit0 (S32.rowMajor i) : S32.Idx → BitVec 32)) :
    after (hostOps0_6 (F := F)) V main_v38 = pick (fun j => wrap (v j)) := by
  after_reads_simp
  rw [h1, h2]
  rfl
theorem ops6_v41 (h1 : V main_v9 = one p) (h2 : V main_v10 = step31) :
    after (hostOps0_6 (F := F)) V main_v41 = (fun j => p + 2#32 + step31 j : S31.Idx → BitVec 32) := by
  after_reads_simp
  rw [h1, h2]
  rfl
theorem ops6_c18 : after (hostOps0_6 (F := F)) V main_c_18 = one 32#32 := by
  after_reads_simp
  rfl

/-- The whole table out of its three pieces. -/
def join3 (x : S2.Idx → BitVec 32) (y z : S31.Idx → BitVec 32) : S64.Idx → BitVec 32 :=
  concatenate S64 0 [⟨S2, x⟩, ⟨S31, y⟩, ⟨S31, z⟩] concatenates_S2_S31_S31_S64_d0

theorem ops8_v50 (x : S2.Idx → BitVec 32) (y : S31.Idx → BitVec 32) (h1 : V main_v42 = v) (h2 : V main_c = (fun i => lit0 (S32.rowMajor i) : S32.Idx → BitVec 32))
    (h3 : V main_v27 = x) (h4 : V main_v38 = y) :
    after (hostOps0_8 (F := F)) V main_v50 = join3 x y (pick (fun j => wrap (v j))) := by
  have e1 : StableHlo.upto (hostOps0_8 (F := F)) V 9 main_v27 = x := by
    after_reads_simp
    exact h3
  have e2 : StableHlo.upto (hostOps0_8 (F := F)) V 9 main_v38 = y := by
    after_reads_simp
    exact h4
  have e3 : StableHlo.upto (hostOps0_8 (F := F)) V 9 main_v49 = pick fun j => wrap (v j) := by
    after_reads_simp
    rw [h1, h2]
    rfl
  after_reads_simp
  show join3 (StableHlo.upto (hostOps0_8 (F := F)) V 9 main_v27) (StableHlo.upto (hostOps0_8 (F := F)) V 9 main_v38) (StableHlo.upto (hostOps0_8 (F := F)) V 9 main_v49) = _
  rw [e1, e2, e3]
theorem ops8_v51 : after (hostOps0_8 (F := F)) V main_v51 = (shapeCast S1x1 (V main_arg2 : S1.Idx → Elt F .f32) shapeCasts_S1_S1x1 : S1x1.Idx → Elt F .f32) := by
  after_reads_simp
  rfl
theorem ops8_v52 : after (hostOps0_8 (F := F)) V main_v52 = (shapeCast S1x1 (V main_arg3 : S1.Idx → Elt F .f32) shapeCasts_S1_S1x1 : S1x1.Idx → Elt F .f32) := by
  after_reads_simp
  rfl

end

/-! ## The table -/

/-- The table as the lines compute it from a device's place. -/
def made (c : Dev nD) : S64.Idx → BitVec 32 :=
  join3 (head2 (look lit0 (wrap (modw (place c + 1#32)))) (look lit0 (wrap (modw (place c - 1#32)))))
    (pick fun j => wrap (modw (place c - 2#32 - step31 j))) (pick fun j => wrap (modw (place c + 2#32 + step31 j)))

/-- The index of the table's word `j`. -/
abbrev ix64 (j : Fin 64) : S64.Idx := fun | 0 => j

theorem made_eq : ∀ (c : Fin 32) (j : Fin 64), made c (ix64 j) = BitVec.ofNat 32 (tab c j.val).val := by decide +kernel

/-- What the device holds when the kernel starts: the table. -/
theorem V9_table (m : (ℓ : Loc nD τ sig) → Buf (Elt F) ℓ) (c : Dev nD) : V9 m c main_v50 = pTab c := by
  have c1 : V1 m c main_c = (fun i => lit0 (S32.rowMajor i) : S32.Idx → BitVec 32) := ops0_c _ c
  have c2 := (V2_of m c main_c (by decide)).trans c1
  have c3 := (V3_of m c main_c (by decide)).trans c2
  have c4 := (V4_of m c main_c (by decide)).trans c3
  have c6 := ((V6_of m c main_c (by decide)).trans (V5_of m c main_c (by decide))).trans c4
  have c8 := ((V8_of m c main_c (by decide)).trans (V7_of m c main_c (by decide))).trans c6
  have p1 : V1 m c main_v9 = one (place c) := ops0_v9 _ c
  have p2 := (V2_of m c main_v9 (by decide)).trans p1
  have p4 := ((V4_of m c main_v9 (by decide)).trans (V3_of m c main_v9 (by decide))).trans p2
  have p6 := ((V6_of m c main_v9 (by decide)).trans (V5_of m c main_v9 (by decide))).trans p4
  have i1 : V1 m c main_v10 = step31 := ops0_v10 _ c
  have i4 := ((V4_of m c main_v10 (by decide)).trans (V3_of m c main_v10 (by decide))).trans ((V2_of m c main_v10 (by decide)).trans i1)
  have i6 := ((V6_of m c main_v10 (by decide)).trans (V5_of m c main_v10 (by decide))).trans i4
  have n2 : V2 m c main_v12 = one (modw (place c + 1#32)) := rem_next _ _ (ops0_v11 _ c) (ops0_c6 _ c)
  have n3 : V3 m c main_v17 = one (look lit0 (wrap (modw (place c + 1#32)))) := ops2_v17 _ _ n2 c2
  have q4 : V4 m c main_v19 = one (modw (place c - 1#32)) := rem_prev _ _ (ops2_v18 _ _ p2) (ops2_c10 _)
  have w5 : V5 m c main_v27 = head2 (look lit0 (wrap (modw (place c + 1#32)))) (look lit0 (wrap (modw (place c - 1#32)))) :=
    ops4_v27 _ _ _ q4 c4 ((V4_of m c main_v17 (by decide)).trans n3)
  have f6 : V6 m c main_v31 = (fun j => modw (place c - 2#32 - step31 j) : S31.Idx → BitVec 32) := rem_fwd _ _ (ops4_v30 _ _ p4 i4) (ops4_c14 _)
  have f7 : V7 m c main_v38 = pick (fun j => wrap (modw (place c - 2#32 - step31 j))) := ops6_v38 _ _ f6 c6
  have b8 : V8 m c main_v42 = (fun j => modw (place c + 2#32 + step31 j) : S31.Idx → BitVec 32) := rem_bwd _ _ (ops6_v41 _ _ p6 i6) (ops6_c18 _)
  have w8 := (V8_of m c main_v27 (by decide)).trans ((V7_of m c main_v27 (by decide)).trans ((V6_of m c main_v27 (by decide)).trans w5))
  have e : V9 m c main_v50 = made c := ops8_v50 _ _ _ _ b8 c8 w8 ((V8_of m c main_v38 (by decide)).trans f7)
  refine e.trans (funext fun i => ?_)
  obtain ⟨j, rfl⟩ : ∃ j, i = ix64 j := ⟨i 0, funext fun k => by obtain rfl := Fin.fin_one_eq_zero k; rfl⟩
  exact made_eq c j

theorem V9_arg (m : (ℓ : Loc nD τ sig) → Buf (Elt F) ℓ) (c : Dev nD) (r : Ref sig .tc)
    (h : r ∉ hostOps0_W ++ hostOps0_1_W ++ hostOps0_2_W ++ hostOps0_3_W ++ hostOps0_4_W ++ hostOps0_5_W ++ hostOps0_6_W ++ hostOps0_7_W ++ hostOps0_8_W) :
    V9 m c r = m (c, Proc.devRef .tc r) := by
  simp only [List.mem_append, not_or] at h
  obtain ⟨⟨⟨⟨⟨⟨⟨⟨h0, h1⟩, h2⟩, h3⟩, h4⟩, h5⟩, h6⟩, h7⟩, h8⟩ := h
  rw [V9_of m c r h8, V8_of m c r h7, V7_of m c r h6, V6_of m c r h5, V5_of m c r h4, V4_of m c r h3, V3_of m c r h2, V2_of m c r h1, V1_of m c r h0]

/-- The two scales, at the kernel's shape. -/
theorem V9_scale (m : (ℓ : Loc nD τ sig) → Buf (Elt F) ℓ) (c : Dev nD) :
    V9 m c main_v51 = (shapeCast S1x1 (m (c, Proc.devRef .tc main_arg2) : S1.Idx → Elt F .f32) shapeCasts_S1_S1x1 : S1x1.Idx → Elt F .f32)
    ∧ V9 m c main_v52 = (shapeCast S1x1 (m (c, Proc.devRef .tc main_arg3) : S1.Idx → Elt F .f32) shapeCasts_S1_S1x1 : S1x1.Idx → Elt F .f32) := by
  have h2 : V8 m c main_arg2 = m (c, Proc.devRef .tc main_arg2) := (V9_of m c main_arg2 (by decide)).symm.trans (V9_arg m c main_arg2 (by decide))
  have h3 : V8 m c main_arg3 = m (c, Proc.devRef .tc main_arg3) := (V9_of m c main_arg3 (by decide)).symm.trans (V9_arg m c main_arg3 (by decide))
  constructor
  · refine (ops8_v51 (V8 m c)).trans ?_
    rw [h2]
  · refine (ops8_v52 (V8 m c)).trans ?_
    rw [h3]

end Cert.Ring

end
-- ==== Proof.Region.lean ====
/-
  The kernel as one region of the program: what its staged buffers hold before and after, its body, and the region's record.
-/
module

public import proofs.«01_k».proof.Proof.Slots
public import proofs.«01_k».proof.Proof.Host
public import proofs.«01_k».proof.Proof.Gen.KernelIdeal.Points
public import Idealize.ShloMosaic.Lib.Pipeline.Value
public import Idealize.ShloMosaic.Lib.Pipeline.RegionTalk

@[expose] public section

set_option maxRecDepth 2000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What the devices hold -/

abbrev argX (c : Dev nD) : S4096x128.Idx → Elt F .fp8e4m3 := V9 m c main_arg0
abbrev argW (c : Dev nD) : S128x8192.Idx → Elt F .fp8e5m2 := V9 m c main_arg1
abbrev argS (c : Dev nD) : S1x1.Idx → Elt F .f32 := V9 m c main_v51
abbrev argT (c : Dev nD) : S1x1.Idx → Elt F .f32 := V9 m c main_v52
/-- What device `c` leaves in its result. -/
def result (c : Dev nD) : S128x8192.Idx → Elt F .f32 :=
  joinLR (outL (argX m) (argW m) (scl (argS m) (argT m) c) c) (outR (argX m) (argW m) (scl (argS m) (argT m) c) c)

abbrev accOf : Bool → ℕ → Dev nD → Vec F S1x128x4096 .bf16 := acc (argX m) (argW m)

/-! ## The launch's share of a device, before and after the counters are opened -/

/-- From the launch. -/
def Tk (c : Dev nD) : sProp 𝕄 :=
  iprop((∃ K, Ctx (accOf m) K) ∗ BarPre c ∗ (four (openTok ER) true c ∗ four (openTok ER) false c) ∗ tickets true 0 c ∗ tickets false 0 c)
/-- With the counters open. -/
def Xk (c : Dev nD) : sProp 𝕄 :=
  iprop((∃ K, Ctx (accOf m) K) ∗ BarPre c ∗ (seat true 0 c ∗ seat false 0 c) ∗ tickets true 0 c ∗ tickets false 0 c)
/-- What is left of it. -/
def Yk (c : Dev nD) : sProp 𝕄 := semVal (barCell c) 0

theorem opening (c : Dev nD) : iprop(Tk m c ∗ Pipeline.ownSems0 osem c ∗ levAts L lv) ⊢ (|={Set.univ}=> Xk m c : sProp 𝕄) := by
  rw [show (Pipeline.ownSems0 osem c : sProp 𝕄) = iprop(four (fun g => semVal g 0) true c ∗ four (fun g => semVal g 0) false c) from
    own_eq (fun g => (semVal g 0 : sProp 𝕄)) c]
  unfold Tk Xk
  iintro ⟨⟨⟨%K, #HC⟩, HB, ⟨Ot, Of⟩, Ht, Hf⟩, ⟨St, Sf⟩, -⟩
  imod (open_four (accOf m) K c true) $$ [Ot St] with H1
  · isplitr; · iexact HC
    isplitl [Ot] <;> iassumption
  imod (open_four (accOf m) K c false) $$ [Of Sf] with H2
  · isplitr; · iexact HC
    isplitl [Of] <;> iassumption
  imodintro
  isplitr; · iexists K; iexact HC
  isplitl [HB]; · iexact HB
  isplitl [H1 H2]; · isplitl [H1] <;> iassumption
  isplitl [Ht] <;> iassumption

/-! ## The region's data -/

/-- The body's invariant: everything at the start, the closed counters at the end; the two travelling buffers and the register throughout. -/
def inv (c : Dev nD) (b : Bool) : sProp 𝕄 :=
  iprop((if b then iprop(Yk c ∗ Pipeline.ownSems0 osem c) else Xk m c) ∗ (whole true c ∗ whole false c) ∗ ∃ r, prngReg c r)

def dat1 (c : Dev nD) : Dat τ (Elt F) ℕ ℕ UU ℕ cfg0 c where
  A := fun
    | 0 => V9 m c main_v50 | 1 => V9 m c main_arg0 | 2 => V9 m c main_arg1 | 3 => V9 m c main_v51 | 4 => V9 m c main_v52 | 5 => V9 m c main_v53
    | ⟨_ + 6, h⟩ => absurd h (Nat.not_lt.2 (Nat.le_add_left _ _))
  after := fun
    | 0, _ => pTab c | 1, _ => argX m c | 2, _ => argW m c | 3, _ => argS m c | 4, _ => argT m c | 5, _ => result m c
    | ⟨_ + 6, h⟩, _ => absurd h (Nat.not_lt.2 (Nat.le_add_left _ _))
  Φ t := inv m c (t.val != 0)
  q _ := fullShare
  owed t := if t.val = 0 then O₀ c else 0

def pdats : (p : Fin 1) → (c : Dev nD) → Dat τ (Elt F) ℕ ℕ UU ℕ (cfgs p) c
  | 0 => dat1 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat1 (F := F) m c).owed t0_0.castSucc = O₀ c := by
  show (if (t0_0.castSucc : Fin (cfg0.N + 1)).val = 0 then O₀ c else 0) = O₀ c; exact if_pos rfl
theorem owed_succ (c : Dev nD) : (dat1 (F := F) m c).owed t0_0.succ = 0 := by
  show (if (t0_0.succ : Fin (cfg0.N + 1)).val = 0 then O₀ c else 0) = 0; exact if_neg (Nat.succ_ne_zero _)
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

omit [FloatOps F] in
theorem owesAt_of {cfg : Cfg sig Λ₀} {c : Dev nD} (dat : Dat τ (Elt F) ℕ ℕ UU ℕ cfg c) (t : Fin (cfg.N + 1)) (O : CellTallies nD τ sig ℕ)
    (h0 : dat.owed t = O) (hr : dat.recorded t = Set.univ) :
    iprop(∃ W, owes (c : Thread nD τ) O W) ⊢ (dat.owesAt 0 t : sProp 𝕄) := by
  unfold Dat.owesAt Pipeline.owesWithin Dat.bound; rw [h0, hr]
  iintro ⟨%W, HO⟩; iexists W; isplitr; · ipureintro; exact fun _ _ => Or.inl trivial
  iexact HO
omit [FloatOps F] in
theorem of_owesAt {cfg : Cfg sig Λ₀} {c : Dev nD} (dat : Dat τ (Elt F) ℕ ℕ UU ℕ cfg c) (t : Fin (cfg.N + 1)) (O : CellTallies nD τ sig ℕ)
    (h0 : dat.owed t = O) : (dat.owesAt 0 t : sProp 𝕄) ⊢ iprop(∃ W, owes (c : Thread nD τ) O W) := by
  unfold Dat.owesAt Pipeline.owesWithin; rw [h0]
  iintro ⟨%W, -, HO⟩; iexists W; iexact HO

/-! ## The staged buffers -/

theorem idx0 : ∀ w : Fin 6, ∀ a, (win0 w).index t0_0 a = 0 := by decide

section
variable (c : Dev nD)

theorem found0 (d) : (dat1 m c).before 0 t0_0 d = pTab c := by
  rw [Dat.before_fetched _ _ _ (fetch0_0 _)]
  refine Eq.trans (funext fun y => ?_) (V9_table m c)
  exact congrArg (V9 m c main_v50) (funext fun a => Fin.ext (Window.rect_emb_val_of_index_zero win0_0 t0_0 a (idx0 0 a) y))
theorem found1 (d) : (dat1 m c).before 1 t0_0 d = argX m c := by
  rw [Dat.before_fetched _ _ _ (fetch0_1 _)]
  funext y
  exact congrArg (V9 m c main_arg0) (funext fun a => Fin.ext (Window.rect_emb_val_of_index_zero win0_1 t0_0 a (idx0 1 a) y))
theorem found2 (d) : (dat1 m c).before 2 t0_0 d = argW m c := by
  rw [Dat.before_fetched _ _ _ (fetch0_2 _)]
  funext y
  exact congrArg (V9 m c main_arg1) (funext fun a => Fin.ext (Window.rect_emb_val_of_index_zero win0_2 t0_0 a (idx0 2 a) y))
theorem found3 (d) : (dat1 m c).before 3 t0_0 d = argS m c := by
  rw [Dat.before_fetched _ _ _ (fetch0_3 _)]
  funext y
  exact congrArg (V9 m c main_v51) (funext fun a => Fin.ext (Window.rect_emb_val_of_index_zero win0_3 t0_0 a (idx0 3 a) y))
theorem found4 (d) : (dat1 m c).before 4 t0_0 d = argT m c := by
  rw [Dat.before_fetched _ _ _ (fetch0_4 _)]
  funext y
  exact congrArg (V9 m c main_v52) (funext fun a => Fin.ext (Window.rect_emb_val_of_index_zero win0_4 t0_0 a (idx0 4 a) y))

theorem left5 : (dat1 m c).arrAt 5 (0 + 1) = result m c := by
  have hN : 0 < cfg0.N := by rw [show cfg0.N = 1 from N_0]; decide
  show (if h : 0 < cfg0.N then (if (cfg0.win 5).flush ⟨0, h⟩ then ((cfg0.win 5).blk ⟨0, h⟩).view.write (Elt F) ((dat1 m c).arrAt 5 0) ((dat1 m c).flushed 5 ⟨0, h⟩) Finset.univ else (dat1 m c).arrAt 5 0) else (dat1 m c).arrAt 5 0) = _
  rw [dif_pos hN, if_pos (flush0_5 _)]
  funext y
  have e : ((cfg0.win 5).blk t0_0).view.emb y = y :=
    funext fun a => Fin.ext (Window.rect_emb_val_of_index_zero win0_5 t0_0 a (idx0 5 a) y)
  have h := View.write_emb_of_mem (Val := Elt F) (v := ((cfg0.win 5).blk t0_0).view) ((dat1 m c).arrAt 5 0) ((dat1 m c).flushed 5 t0_0) (Finset.mem_univ y)
  rw [e] at h
  exact h

/-! ## The body -/

/-- A device's share of the run in the form the body's triple takes it. -/
theorem entering : iprop(Xk m c ∗ (whole true c ∗ whole false c) ∗ (Tab c ∗ Xin (argX m) c ∗ Win (argW m) c ∗ Sin (argS m) (argT m) c ∗ OutAny c)
      ∗ ∃ W, owes (c : Thread nD τ) (O₀ c) W)
    ⊢ (iprop((∃ K, Ctx (accOf m) K) ∗ Pre (argX m) (argW m) (argS m) (argT m) c) : sProp 𝕄) := by
  unfold Xk Pre Slots
  iintro ⟨⟨HC, HB, ⟨St, Sf⟩, Tt, Tf⟩, ⟨Wt, Wf⟩, ⟨HT, HX, HW, HS, HO⟩, Ho⟩
  ihave Ht := (whole_split true c) $$ Wt
  ihave Hf := (whole_split false c) $$ Wf
  icases Ht with ⟨Ht0, Ht1⟩
  icases Hf with ⟨Hf0, Hf1⟩
  isplitl [HC]; · iexact HC
  isplitl [HB]; · iexact HB
  isplitl [Ht0 Ht1 Hf0 Hf1]
  · isplitl [Ht0]; · iexact Ht0
    isplitl [Ht1]; · iexact Ht1
    isplitl [Hf0] <;> iassumption
  isplitl [St]; · iexact St
  isplitl [Sf]; · iexact Sf
  isplitl [Tt]; · iexact Tt
  isplitl [Tf]; · iexact Tf
  isplitl [HT]; · iexact HT
  isplitl [HX]; · iexact HX
  isplitl [HW]; · iexact HW
  isplitl [HS]; · iexact HS
  isplitl [HO]; · iexact HO
  iexact Ho

theorem leaving (K : GSem nD τ sig → ℕ) : iprop(Ctx (accOf m) K ∗ Post (argX m) (argW m) (argS m) (argT m) c)
    ⊢ (|={Set.univ}=> iprop((Yk c ∗ Pipeline.ownSems0 osem c) ∗ (whole true c ∗ whole false c)
      ∗ (Tab c ∗ Xin (argX m) c ∗ Win (argW m) c ∗ Sin (argS m) (argT m) c ∗ Out c (result m c))
      ∗ ∃ W, owes (c : Thread nD τ) 0 W) : sProp 𝕄) := by
  rw [show (Pipeline.ownSems0 osem c : sProp 𝕄) = iprop(four (fun g => semVal g 0) true c ∗ four (fun g => semVal g 0) false c) from
    own_eq (fun g => (semVal g 0 : sProp 𝕄)) c]
  unfold Post Fin_ Slots Yk
  iintro ⟨#HC, Hb, HW, HS, ⟨Ht0, Ht1, Hf0, Hf1⟩, St, Sf, HT, HX, HO, Ho⟩
  imod (close_one (accOf m) K (barCell c) (bar_mem c) 1 (no_bar (accOf m) c)) $$ [Hb] with Hb
  · isplitr; · iexact HC
    iexact Hb
  imod (close_four (accOf m) K c true) $$ [St] with St
  · isplitr; · iexact HC
    iexact St
  imod (close_four (accOf m) K c false) $$ [Sf] with Sf
  · isplitr; · iexact HC
    iexact Sf
  imodintro
  isplitl [Hb St Sf]
  · isplitl [Hb]; · iexact Hb
    isplitl [St] <;> iassumption
  isplitl [Ht0 Ht1 Hf0 Hf1]
  · isplitl [Ht0 Ht1]
    · iapply (whole_join true c); isplitl [Ht0] <;> iassumption
    iapply (whole_join false c); isplitl [Hf0] <;> iassumption
  isplitl [HT HX HW HS HO]
  · isplitl [HT]; · iexact HT
    isplitl [HX]; · iexact HX
    isplitl [HW]; · iexact HW
    isplitl [HS]; · iexact HS
    iexact HO
  iexact Ho

omit [FloatOps F] in
/-- A whole buffer held, of which the contents are known by another name. -/
theorem unstage (b : Ref sig .tc) {f g : b.ty.Contents (Elt F)} (h : f = g) : (owns (c : Thread nD τ) (Memref.whole b) fullShare f : sProp 𝕄) ⊢ iprop(((c : Thread nD τ).loc b) ↦{fullShare} g) := by
  subst h; rw [owns_whole]
omit [FloatOps F] in
theorem stage (b : Ref sig .tc) (f : b.ty.Contents (Elt F)) : iprop(((c : Thread nD τ).loc b) ↦{fullShare} f) ⊢ (owns (c : Thread nD τ) (Memref.whole b) fullShare f : sProp 𝕄) := by
  rw [owns_whole]

def stagedIn (w : Fin 6) : sProp 𝕄 := iprop(∃ d, owns (c : Thread nD τ) ((cfg0.win w).stage (cfg0.slots t0_0 w)) fullShare ((dat1 m c).before w t0_0 d))
def stagedOut (w : Fin 6) : sProp 𝕄 := owns (c : Thread nD τ) ((cfg0.win w).stage (cfg0.slots t0_0 w)) fullShare ((dat1 m c).after w t0_0)

/-- The six staged buffers, at what each holds before the body. -/
theorem staged_in : (bigSep Finset.univ (stagedIn m c) : sProp 𝕄)
    ⊢ iprop(Tab c ∗ Xin (argX m) c ∗ Win (argW m) c ∗ Sin (argS m) (argT m) c ∗ OutAny c) := by
  rw [bigSep_W0]
  unfold stagedIn
  iintro ⟨⟨%d0, H0⟩, ⟨%d1, H1⟩, ⟨%d2, H2⟩, ⟨%d3, H3⟩, ⟨%d4, H4⟩, ⟨%d5, H5⟩⟩
  ihave H0 := (unstage c cc0_stg0_0 (found0 m c d0)) $$ H0
  ihave H1 := (unstage c cc0_stg1_0 (found1 m c d1)) $$ H1
  ihave H2 := (unstage c cc0_stg2_0 (found2 m c d2)) $$ H2
  ihave H3 := (unstage c cc0_stg3_0 (found3 m c d3)) $$ H3
  ihave H4 := (unstage c cc0_stg4_0 (found4 m c d4)) $$ H4
  ihave H5 := (unstage c cc0_stg5_0 (rfl : (dat1 m c).before 5 t0_0 d5 = _)) $$ H5
  unfold Tab Xin Win
  isplitl [H0]; · iexact H0
  isplitl [H1]; · iexact H1
  isplitl [H2]; · iexact H2
  isplitl [H3 H4]; · unfold Sin; isplitl [H3]; · iexact H3
                     iexact H4
  unfold OutAny Out
  iexists _; iexact H5

theorem staged_out : iprop(Tab c ∗ Xin (argX m) c ∗ Win (argW m) c ∗ Sin (argS m) (argT m) c ∗ Out c (result m c))
    ⊢ (bigSep Finset.univ (stagedOut m c) : sProp 𝕄) := by
  rw [bigSep_W0]
  unfold stagedOut
  unfold Tab Xin Win Sin Out
  iintro ⟨H0, H1, H2, ⟨H3, H4⟩, H5⟩
  isplitl [H0]; · iapply (stage c cc0_stg0_0 (pTab c)); iexact H0
  isplitl [H1]; · iapply (stage c cc0_stg1_0 (argX m c)); iexact H1
  isplitl [H2]; · iapply (stage c cc0_stg2_0 (argW m c)); iexact H2
  isplitl [H3]; · iapply (stage c cc0_stg3_0 (argS m c)); iexact H3
  isplitl [H4]; · iapply (stage c cc0_stg4_0 (argT m c)); iexact H4
  iapply (stage c cc0_stg5_0 (result m c)); iexact H5

end

theorem body_run (c : Dev nD) : iprop((dat1 m c).Φ t0_0.castSucc ∗ (dat1 m c).owesAt 0 t0_0.castSucc
      ∗ bigSep Finset.univ (stagedIn m c))
    ⊢ WP c (body (F := F)) fun _ => iprop((dat1 m c).Φ t0_0.succ ∗ (dat1 m c).owesAt 0 t0_0.succ
      ∗ bigSep Finset.univ (stagedOut m c)) := by
  rw [show (dat1 m c).Φ t0_0.castSucc = iprop(Xk m c ∗ (whole true c ∗ whole false c) ∗ ∃ r, prngReg c r) from rfl,
    show (dat1 m c).Φ t0_0.succ = iprop((Yk c ∗ Pipeline.ownSems0 osem c) ∗ (whole true c ∗ whole false c) ∗ ∃ r, prngReg c r) from rfl]
  iintro ⟨⟨HX, Hw, Hreg⟩, HO, Hs⟩
  ihave HO := (of_owesAt (dat1 m c) _ (O₀ c) (owed_first m c)) $$ HO
  ihave Hs := (staged_in m c) $$ Hs
  ihave H := (entering m c) $$ [HX Hw HO Hs]
  · isplitl [HX]; · iexact HX
    isplitl [Hw]; · iexact Hw
    isplitl [Hs]; · iexact Hs
    iexact HO
  icases H with ⟨⟨%K, #HC⟩, HP⟩
  iapply (wp_fupd _ _ _ _ _)
  iapply (wp_wand Idealize.ShloMosaic.frame (wpE (defs₀ (F := F)) 𝒱₀ (c : Thread nD τ) none) Set.univ (Q := fun _ => Post (argX m) (argW m) (argS m) (argT m) c)) $$ [HP]
  · iapply (wp_body (argX m) (argW m) K c (argS m) (argT m) (fun _ => Entails.refl _))
    isplitr; · iexact HC
    iexact HP
  iintro %u HP
  imod (leaving m c K) $$ [HP] with ⟨HY, Hw, Hs, HO⟩
  · isplitr; · iexact HC
    iexact HP
  imodintro
  isplitl [HY Hw Hreg]
  · isplitl [HY]; · iexact HY
    isplitl [Hw]; · iexact Hw
    iexact Hreg
  isplitl [HO]
  · iapply (owesAt_of (dat1 m c) _ 0 (owed_succ m c) rfl); iexact HO
  iapply (staged_out m c); iexact Hs

set_option maxRecDepth 20000 in
theorem prog_eq : defs₀ (F := F) .tc cfg0.body (cfg0.bodyArgs t0_0 (cfg0.slots t0_0)) = body (F := F) := by
  refine Eq.trans ?_ body_eq
  rfl

theorem body_ok (c : Dev nD) : BodyObligation (dat1 m c) defs₀ 𝒱₀ 0 Set.univ := fun t => by
  obtain rfl := fin_N0 t
  have h := body_run m c
  rw [bigSep_W0 (stagedIn m c), bigSep_W0 (stagedOut m c), ← prog_eq] at h
  rw [bigSep_W0, bigSep_W0]
  generalize defs₀ (F := F) .tc cfg0.body (cfg0.bodyArgs t0_0 (cfg0.slots t0_0)) = p at h ⊢
  refine BI.Entails.trans ?_ (h.trans (wp_mono _ _ _ fun _ => ?_))
  · exact Entails.refl _
  · exact Entails.refl _

end Cert.Ring

end
-- ==== Proof.Talk.lean ====
/-
  The region's record: how the kernel's call is entered and left within the program.
-/
module

public import proofs.«01_k».proof.Proof.Region

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The buffers beside the region's arrays -/

/-- What the region leaves in the buffers it may write. -/
def outs : Outs (F := F) := fun _ r c => Function.update (fun r => V9 m c (Proc.devRef .tc r)) main_v53 (result m c) r

theorem outs_v53 (c : Dev nD) : outs m 10 main_v53 c = result m c := Function.update_self _ _ _

theorem V10_v53 (c : Dev nD) : V10 m (outs m) c main_v53 = result m c := by
  unfold V10; rw [Function.update_self, outs_v53]

/-- The unscoped buffers the call takes no part in. -/
def besides : Finset (DevRef τ sig) := Pipeline.ucRefs τ sig \ Pipeline.arrRefs (τ := τ) (pcfgs (F := F) 0).spec

theorem v53_arr : (Proc.devRef .tc main_v53 : DevRef τ sig) ∈ Pipeline.arrRefs (τ := τ) (pcfgs (F := F) 0).spec :=
  Finset.mem_map_of_mem _ (Finset.mem_image.mpr ⟨(5 : Fin 6), Finset.mem_univ _, rfl⟩)

theorem besides_same (c : Dev nD) (b : DevRef τ sig) (hb : b ∈ besides (F := F)) : V10 m (outs m) c b = V9 m c b := by
  have : b ≠ Proc.devRef .tc main_v53 := fun e => (Finset.mem_sdiff.mp hb).2 (e ▸ v53_arr (F := F))
  unfold V10; rw [Function.update_of_ne this]

theorem arrs_sub : Pipeline.arrRefs (τ := τ) (pcfgs (F := F) 0).spec ⊆ Pipeline.ucRefs τ sig :=
  Pipeline.arrRefs_sub_ucRefs _ (fun w => by revert w; exact (by decide : ∀ w : Fin 6, (Pipeline.arrRef spec0 w).isScoped = false))

theorem held_parts (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) (pcfgs (F := F) 0).spec) V ∗ StableHlo.held (c.tc : Thread nD τ) (besides (F := F)) V) :=
  StableHlo.held_sub_split (c.tc : Thread nD τ) arrs_sub V

omit [FloatOps F] in
theorem held_none (c : Dev nD) (V : Valuation τ sig (Elt F)) : (StableHlo.held (c.tc : Thread nD τ) ∅ V : sProp 𝕄) = BI.emp := by
  unfold StableHlo.held; exact BI.bigSep_empty

/-! ## The record's parts -/

theorem entry_arr (c : Dev nD) : ∀ w : Fin 6, (dat1 m c).arrAt w 0 = V9 m c (Proc.devRef .tc (Pipeline.arrRef spec0 w))
  | 0 => rfl | 1 => rfl | 2 => rfl | 3 => rfl | 4 => rfl | 5 => rfl

theorem exit_arr (c : Dev nD) : ∀ w : Fin 6, (dat1 m c).arrAt w cfg0.N = V10 m (outs m) c (Proc.devRef .tc (Pipeline.arrRef spec0 w))
  | 0 => ((dat1 m c).arrAt_in 0 rfl _).trans (V10_of m (outs m) c main_v50 (by decide)).symm
  | 1 => ((dat1 m c).arrAt_in 1 rfl _).trans (V10_of m (outs m) c main_arg0 (by decide)).symm
  | 2 => ((dat1 m c).arrAt_in 2 rfl _).trans (V10_of m (outs m) c main_arg1 (by decide)).symm
  | 3 => ((dat1 m c).arrAt_in 3 rfl _).trans (V10_of m (outs m) c main_v51 (by decide)).symm
  | 4 => ((dat1 m c).arrAt_in 4 rfl _).trans (V10_of m (outs m) c main_v52 (by decide)).symm
  | 5 => by rw [show cfg0.N = 0 + 1 from N_0]; exact (left5 m c).trans (V10_v53 m c).symm
  | ⟨_ + 6, h⟩ => absurd h (Nat.not_lt.2 (Nat.le_add_left _ _))

theorem enter (c : Dev nD) : iprop(Pipeline.scopedRest spec0 c ∗ (∃ r, prngReg c r) ∗ StableHlo.held (c.tc : Thread nD τ) ∅ (V9 m c) ∗ Xk m c)
    ⊢ (pdats m 0 c).Φ 0 := by
  rw [show (pdats m 0 c).Φ 0 = iprop(Xk m c ∗ (whole true c ∗ whole false c) ∗ ∃ r, prngReg c r) from rfl, scopedRest0_eq, held_none]
  iintro ⟨Hs, Hp, -, HX⟩
  isplitl [HX]; · iexact HX
  isplitl [Hs]; · iexact Hs
  iexact Hp

theorem last_inv (c : Dev nD) : (pdats m 0 c).Φ (Fin.last cfg0.N)
    = iprop((Yk c ∗ Pipeline.ownSems0 osem c) ∗ (whole true c ∗ whole false c) ∗ ∃ r, prngReg c r) := by
  show inv m c ((Fin.last cfg0.N).val != 0) = _
  rw [Fin.val_last, show cfg0.N = 1 from N_0]
  rfl

theorem leave (c : Dev nD) : (pdats m 0 c).Φ (Fin.last cfg0.N)
    ⊢ iprop(Pipeline.scopedRest spec0 c ∗ (∃ r, prngReg c r) ∗ StableHlo.held (c.tc : Thread nD τ) ∅ (V10 m (outs m) c) ∗ Pipeline.ownSems0 osem c ∗ Yk c) := by
  rw [last_inv, scopedRest0_eq, held_none]
  iintro ⟨⟨HY, Ho⟩, Hs, Hp⟩
  isplitl [Hs]; · iexact Hs
  isplitl [Hp]; · iexact Hp
  isplitr; · iempintro
  isplitl [Ho]; · iexact Ho
  iexact HY

theorem kit0 : Pipeline.PLaunchFacts (nD := nD) (τ := τ) (pcfgs (F := F)) 0 := launch0.toP

theorem stage_level : ∀ (w : Fin 6) (s : Fin (win0 w).nbuf), role (.dma ((win0 w).sem s)) = .other := by decide

theorem cut (c : Dev nD) (t : Fin (cfg0.N + 1)) : Above 0 ((dat1 (F := F) m c).owed t) := by
  show Above 0 (if t.val = 0 then O₀ c else 0)
  split
  · exact above_O₀ c
  · exact .zero 0

theorem shares (c : Dev nD) : ∀ w : Fin 6, (dat1 (F := F) m c).share w = fullShare
  | 0 => rfl | 1 => rfl | 2 => rfl | 3 => rfl | 4 => rfl | 5 => rfl
  | ⟨_ + 6, h⟩ => absurd h (Nat.not_lt.2 (Nat.le_add_left _ _))

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ (besides (F := F)) (Finset.empty_subset _) kit0 rfl (fun c => (body_ok m c).loose)
    (fun _ => 0) O₀ (fun c => (owed_zero m c).trans (zero_add _).symm) (owed_last m) (fun _ => rfl) (shares m)
    (V9 m) (V10 m (outs m)) (fun c b hb => besides_same m c b (Finset.mem_sdiff.mp hb).1)
    (Tk m) Yk (Xk m) Yk (opening m) (enter m) (leave m)
    (fun c => by iintro H; imodintro; iexact H)
    (fun _ => 0)
    ⟨fun c w s => by rw [L_tc]; decide,
      fun c w s => by unfold lv; rw [show role _ = _ from stage_level w s],
      fun c t g i h => cut m c t g i h⟩
    (fun _ => iprop(emp))
    (fun c w => entry_arr m c w) (fun c w => exit_arr m c w)

/-! ## Its two ends -/

theorem reg0_pre (c : Dev nD) : iprop(StableHlo.held (c : Thread nD τ) (Pipeline.ucRefs τ sig) (V9 m c)
      ∗ (Tk m c ∗ (∃ r, prngReg c r) ∗ ∃ W, owes (c : Thread nD τ) (O₀ c) W)) ⊢ (reg0 m).pre c := by
  show _ ⊢ iprop(StableHlo.held (c.tc : Thread nD τ) (Pipeline.arrRefs (τ := τ) (pcfgs (F := F) 0).spec) (V9 m c) ∗ (∃ r, prngReg c r)
    ∗ (StableHlo.held (c.tc : Thread nD τ) (besides (F := F)) (V9 m c) ∗ emp) ∗ Tk m c ∗ ∃ Wd, owes (c : Thread nD τ) (0 + O₀ c) Wd)
  rw [held_parts, zero_add]
  iintro ⟨⟨Ha, Hb⟩, HT, Hp, HO⟩
  isplitl [Ha]; · iexact Ha
  isplitl [Hp]; · iexact Hp
  isplitl [Hb]
  · isplitl [Hb]; · iexact Hb
    iempintro
  isplitl [HT]; · iexact HT
  iexact HO

theorem reg0_post (c : Dev nD) : (reg0 m).post c
    ⊢ iprop((StableHlo.held (c : Thread nD τ) (Pipeline.ucRefs τ sig) (V10 m (outs m) c) ∗ semVal (barCell c) 0)
      ∗ ∃ W, owes (c : Thread nD τ) (0 : CellTallies nD τ sig ℕ) W) := by
  show iprop(StableHlo.held (c.tc : Thread nD τ) (Pipeline.arrRefs (τ := τ) (pcfgs (F := F) 0).spec) (V10 m (outs m) c) ∗ (∃ r, prngReg c r)
    ∗ (StableHlo.held (c.tc : Thread nD τ) (besides (F := F)) (V10 m (outs m) c) ∗ emp) ∗ Yk c ∗ ∃ Wd, owes (c : Thread nD τ) (0 : CellTallies nD τ sig ℕ) Wd) ⊢ _
  rw [held_parts]
  unfold Yk
  iintro ⟨Ha, -, ⟨Hb, -⟩, HY, HO⟩
  isplitr [HO]
  · isplitl [Ha Hb]
    · isplitl [Ha] <;> iassumption
    iexact HY
  iexact HO

end Cert.Ring

end
-- ==== Proof.Launch.lean ====
/-
  The launch: who is dealt which token, and the credit each device starts with.
-/
module

public import proofs.«01_k».proof.Proof.Talk
public import Idealize.ShloMosaic.Lib.Pipeline.Launch

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The tokens of every duty -/

/-- A copy's duty: at its leaving (`true`) or its landing, in which direction, of which hop. -/
abbrev CopyDuty : Type := Bool × Bool × Fin 31

def copySem (x : CopyDuty) : SemLoc sig := .dma (if x.1 then semAt (sS x.2.1) (par x.2.2.val) else semAt (sR x.2.1) (par (x.2.2.val + 1)))

theorem role_copy (x : CopyDuty) : role (copySem x) = if x.1 then .send x.2.1 (par x.2.2.val) else .recv x.2.1 (par (x.2.2.val + 1)) := by
  obtain ⟨s, d, j⟩ := x
  cases s
  · exact role_recv d _
  · exact role_send d _

theorem hop_eq {i j : ℕ} (h1 : i / 2 = j / 2) (h2 : par i = par j) : i = j := by
  have := congrArg Fin.val h2; simp only [par] at this; omega
theorem hop_eq' {i j : ℕ} (h1 : i / 2 = j / 2) (h2 : par (i + 1) = par (j + 1)) : i = j := by
  have := congrArg Fin.val h2; simp only [par] at this; omega

theorem copy_inj (x y : CopyDuty) (h : role (copySem x) = role (copySem y)) (hr : x.2.2.val / 2 = y.2.2.val / 2) : x = y := by
  rw [role_copy, role_copy] at h
  obtain ⟨s, d, j⟩ := x
  obtain ⟨s', d', j'⟩ := y
  cases s <;> cases s' <;> simp only [if_true, if_false, Bool.false_eq_true, Role.send.injEq, Role.recv.injEq, reduceCtorEq] at h
  · obtain ⟨rfl, h⟩ := h
    rw [show j = j' from Fin.ext (hop_eq' hr h)]
  · obtain ⟨rfl, h⟩ := h
    rw [show j = j' from Fin.ext (hop_eq hr h)]

def barTok : Dev nD × Bool ↪ GSem nD τ sig × ℕ × Bool :=
  ⟨fun x => (barCell x.1, 0, x.2), fun _ _ h =>
    Prod.ext (congrArg (fun t : GSem nD τ sig × ℕ × Bool => t.1.1.1) h) (congrArg (fun t : GSem nD τ sig × ℕ × Bool => t.2.2) h)⟩
def copyTok : Dev nD × CopyDuty ↪ GSem nD τ sig × ℕ × Bool :=
  ⟨fun x => (((x.1 : Thread nD τ), copySem x.2), x.2.2.2.val / 2, true), fun _ _ h =>
    Prod.ext (congrArg (fun t : GSem nD τ sig × ℕ × Bool => t.1.1.1) h)
      (copy_inj _ _ (congrArg (fun t : GSem nD τ sig × ℕ × Bool => role t.1.2) h) (congrArg (fun t : GSem nD τ sig × ℕ × Bool => t.2.1) h))⟩

def duties : Finset (GSem nD τ sig × ℕ × Bool) := Finset.univ.map barTok ∪ Finset.univ.map copyTok

theorem duties_apart : Disjoint (Finset.univ.map barTok) (Finset.univ.map copyTok) := by
  rw [Finset.disjoint_left]
  rintro t h1 h2
  obtain ⟨x, -, rfl⟩ := Finset.mem_map.mp h1
  obtain ⟨y, -, h⟩ := Finset.mem_map.mp h2
  have h : copySem y.2 = .reg barS := congrArg (fun t : GSem nD τ sig × ℕ × Bool => t.1.2) h
  unfold copySem at h; cases h

theorem cells_apart : Disjoint (barCells : Finset (GSem nD τ sig)) copyCells := by
  rw [Finset.disjoint_left]
  rintro g h1 h2
  obtain ⟨c, -, rfl⟩ := Finset.mem_image.mp h1
  obtain ⟨x, -, h⟩ := Finset.mem_image.mp h2
  have h := congrArg (fun g : GSem nD τ sig => g.2) h
  dsimp only at h; split at h <;> cases h

/-! ## The tokens device by device -/

def sendToks (d : Bool) (c : Dev nD) : sProp 𝕄 := bigSep (Finset.Ico 0 31) fun j => dutyTok ER (sendCell d (par j) c) (j / 2) true
def recvToks (d : Bool) (c : Dev nD) : sProp 𝕄 := bigSep (Finset.Ico 0 31) fun j => dutyTok ER (recvCell d (par (j + 1)) c) (j / 2) true
def recvCreds (d : Bool) (c : Dev nD) : sProp 𝕄 := bigSep (Finset.Ico 0 31) fun j => cred (tallyAt (recvCell d (par (j + 1)) c) j N)

omit [FloatOps F] in
theorem tickets_of (d : Bool) (c : Dev nD) : iprop(sendToks d c ∗ recvToks d (nb d c) ∗ recvCreds d c) ⊢ (tickets d 0 c : sProp 𝕄) := by
  unfold sendToks recvToks recvCreds tickets ticket
  rw [← bigSep_sep', ← bigSep_sep']

theorem Ico_fin : Finset.Ico 0 31 = (Finset.univ : Finset (Fin 31)).map Fin.valEmbedding := by decide

theorem two_bools (Φ : Bool → sProp 𝕄) : bigSep Finset.univ Φ = iprop(Φ true ∗ Φ false) :=
  bigSep_univ_eq_bigSepL [true, false] (by decide) (by decide) Φ

/-- A device's own tokens. -/
def ownToks (c : Dev nD) : sProp 𝕄 :=
  iprop((dutyTok ER (barCell c) 0 true ∗ dutyTok ER (barCell c) 0 false)
    ∗ (sendToks true c ∗ sendToks false c) ∗ recvToks true c ∗ recvToks false c)

theorem toks_eq : bigSep duties (fun x => (dutyTok ER x.1 x.2.1 x.2.2 : sProp 𝕄)) = bigSep Finset.univ fun c : Dev nD => (ownToks c : sProp 𝕄) := by
  unfold duties
  rw [BI.bigSep_union duties_apart, bigSep_map, bigSep_map, bigSep_univ_prod, bigSep_univ_prod]
  refine Eq.trans (bigSep_sep' _ _ _).symm (bigSep_congr fun c _ => ?_)
  rw [two_bools, bigSep_univ_prod, two_bools, bigSep_univ_prod, two_bools, bigSep_univ_prod, two_bools]
  unfold ownToks sendToks recvToks
  rw [Ico_fin, bigSep_map, bigSep_map, bigSep_map, bigSep_map]
  rfl

/-- The tokens each device is to pay with. -/
def payToks (c : Dev nD) : sProp 𝕄 :=
  iprop((dutyTok ER (barCell (nb false c)) 0 true ∗ dutyTok ER (barCell (nb true c)) 0 false)
    ∗ (sendToks true c ∗ sendToks false c) ∗ recvToks true (nb true c) ∗ recvToks false (nb false c))

/-- The tokens of the barrier and of the landings go one place round the cycle. -/
theorem toks_around : (bigSep Finset.univ fun c : Dev nD => (ownToks c : sProp 𝕄)) ⊢ bigSep Finset.univ fun c : Dev nD => (payToks c : sProp 𝕄) := by
  unfold ownToks payToks
  rw [bigSep_sep', bigSep_sep', bigSep_sep', bigSep_sep', bigSep_sep', bigSep_sep', bigSep_sep', bigSep_sep', bigSep_sep', bigSep_sep',
    bigSep_univ_equiv (ring false) (fun c : Dev nD => (dutyTok ER (barCell c) 0 true : sProp 𝕄)),
    bigSep_univ_equiv (ring true) (fun c : Dev nD => (dutyTok ER (barCell c) 0 false : sProp 𝕄)),
    bigSep_univ_equiv (ring true) (fun c : Dev nD => (recvToks true c : sProp 𝕄)),
    bigSep_univ_equiv (ring false) (fun c : Dev nD => (recvToks false c : sProp 𝕄))]
  exact Entails.refl _

/-! ## The launch's credit -/

theorem cred_hop (d : Bool) (j : ℕ) (c : Dev nD) : (Pipeline.launchCred (tD d j) c : sProp 𝕄) ⊢ cred (tallyAt (recvCell d (par (j + 1)) c) j N) :=
  Pipeline.launchCred_tallyAt (.dma (semAt (sR d) (par (j + 1)))) (nb d) (nb (!d)) (nb_to d) (nb_to' d) j N c

theorem cred_hops (d : Bool) (c : Dev nD) : (bigSep (Finset.Ico 0 31) fun j => (Pipeline.launchCred (tD d j) c : sProp 𝕄)) ⊢ recvCreds d c :=
  bigSep_mono fun j _ => cred_hop d j c

theorem creds (c : Dev nD) : (Pipeline.launchCred O₀ c : sProp 𝕄)
    ⊢ iprop(cred (tallyAt (barCell c) 0 2) ∗ recvCreds true c ∗ recvCreds false c) := by
  have e : (Pipeline.launchCred O₀ c : sProp 𝕄) = iprop((Pipeline.launchCred (owed 0) c ∗ Pipeline.launchCred (fun d => tallyAt (barCell (nb false d)) 0 1) c)
      ∗ Pipeline.launchCred (fun d => tallyAt (barCell (nb true d)) 0 1) c) :=
    (Pipeline.launchCred_add (fun d => owed 0 d + tallyAt (barCell (nb false d)) 0 1) (fun d => tallyAt (barCell (nb true d)) 0 1) c).trans
      (by rw [Pipeline.launchCred_add])
  have e2 : (Pipeline.launchCred (owed 0) c : sProp 𝕄) = bigSep (Finset.Ico 0 31) fun j => iprop(Pipeline.launchCred (tD false j) c ∗ Pipeline.launchCred (tD true j) c) :=
    (Pipeline.launchCred_sum (Finset.Ico 0 31) (fun j d => tD false j d + tD true j d) c).trans
      (bigSep_congr fun j _ => Pipeline.launchCred_add (tD false j) (tD true j) c)
  rw [e, e2, bigSep_sep']
  iintro ⟨⟨⟨Hf, Ht⟩, H1⟩, H2⟩
  ihave H1 := (Pipeline.launchCred_tallyAt (.reg barS) (nb false) (nb true) nb_ft nb_tf 0 1 c) $$ H1
  ihave H2 := (Pipeline.launchCred_tallyAt (.reg barS) (nb true) (nb false) nb_tf nb_ft 0 1 c) $$ H2
  isplitl [H1 H2]
  · rw [show (2 : ℕ) = 1 + 1 from rfl, ← tallyAt_add]
    iapply (cred_add _ _).2
    isplitl [H1] <;> iassumption
  isplitl [Ht]
  · iapply (cred_hops (F := F) true c); iexact Ht
  iapply (cred_hops (F := F) false c); iexact Hf

/-! ## What a device starts with -/

/-- The launch element: the pipeline's at the staging cells, the protocol's at the copies' and the barrier's. -/
def u₀ : UU :=
  (initOf (Pipeline.cells (Pipeline.pin (pcfgs (F := F)) adm) cellOf_inj) (Pipeline.launchToks (Pipeline.pin (pcfgs (F := F)) adm) cellOf_inj),
    launchOf barCells copyCells duties)

/-- All of the protocol's launch element on one device, until it is dealt. -/
def parked : sProp 𝕄 := BI.own (ER (launchOf barCells copyCells duties))
def G (c : Dev nD) : sProp 𝕄 := if c = 0 then parked else iprop(emp)

theorem G_all : bigSep Finset.univ (G (F := F)) = parked := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem unscoped (c : Dev nD) : (unscopedSems0 c : sProp 𝕄) = semVal (barCell c) 0 := by
  unfold unscopedSems0
  rw [show (Finset.univ.filter fun sm : SemLoc sig => ¬ sm.isScoped .tc = true) = {SemLoc.reg barS} by decide, bigSep_singleton]

variable (m : (ℓ : Loc nD τ sig) → Buf (Elt F) ℓ)

/-- What rides beside the buffers up to the call. -/
def Ride (c : Dev nD) : sProp 𝕄 := iprop(Tk m c ∗ (∃ r, prngReg c r) ∗ ∃ W, owes (c : Thread nD τ) (O₀ c) W)

/-- A device's counters to open. -/
def opens (c : Dev nD) : sProp 𝕄 := iprop(four (openTok ER) true c ∗ four (openTok ER) false c)
def bar0 (c : Dev nD) : sProp 𝕄 := atPos ER (barCell c) 0 ∅ 0

/-- The part of a device's start that is not shared. -/
def alone (c : Dev nD) : sProp 𝕄 :=
  iprop(bar0 c ∗ (opens c ∗ payToks c))
def plain (c : Dev nD) : sProp 𝕄 :=
  iprop(StableHlo.held (c : Thread nD τ) (Pipeline.ucRefs τ sig) (V0 m c)
    ∗ (cred (tallyAt (barCell c) 0 2) ∗ recvCreds true c ∗ recvCreds false c) ∗ owes (c : Thread nD τ) (O₀ c) ∅ ∗ ∃ r, prngReg c r)

abbrev Start (c : Dev nD) : sProp 𝕄 := iprop(StableHlo.held (c : Thread nD τ) (Pipeline.ucRefs τ sig) (V0 m c) ∗ Ride m c)

theorem start_of (K : GSem nD τ sig → ℕ) (c : Dev nD) : iprop(Ctx (accOf m) K ∗ (alone c ∗ plain m c)) ⊢ Start m c := by
  unfold alone plain Start Ride Tk BarPre payToks bar0 opens
  iintro ⟨#HC, ⟨Ha, Ho, ⟨Hb1, Hb2⟩, ⟨Hs1, Hs2⟩, Hr1, Hr2⟩, Hh, ⟨Hc, Hc1, Hc2⟩, HO, Hp⟩
  isplitl [Hh]; · iexact Hh
  isplitl [Ha Ho Hb1 Hb2 Hs1 Hs2 Hr1 Hr2 Hc Hc1 Hc2]
  · isplitr; · iexists K; iexact HC
    isplitl [Ha Hb1 Hb2 Hc]
    · isplitl [Ha]; · iexact Ha
      isplitl [Hc]; · iexact Hc
      isplitl [Hb2] <;> iassumption
    isplitl [Ho]; · iexact Ho
    isplitl [Hs1 Hr1 Hc1]
    · iapply (tickets_of (F := F) true c)
      isplitl [Hs1]; · iexact Hs1
      isplitl [Hr1] <;> iassumption
    iapply (tickets_of (F := F) false c)
    isplitl [Hs2]; · iexact Hs2
    isplitl [Hr2] <;> iassumption
  isplitl [Hp]; · iexact Hp
  iexists ∅; iexact HO

theorem bar_inj : Set.InjOn (barCell : Dev nD → GSem nD τ sig) (Finset.univ : Finset (Dev nD)) :=
  fun _ _ _ _ h => congrArg (fun g : GSem nD τ sig => g.1.1) h

theorem over_bars (Φ : GSem nD τ sig → sProp 𝕄) : bigSep barCells Φ = bigSep Finset.univ fun c : Dev nD => Φ (barCell c) := by
  unfold barCells
  rw [show Finset.univ.image (barCell : Dev nD → GSem nD τ sig)
    = Finset.univ.map ⟨barCell, fun _ _ h => congrArg (fun g : GSem nD τ sig => g.1.1) h⟩ from by rw [Finset.map_eq_image]; rfl, bigSep_map]
  rfl

def ownEmb : Dev nD × Own ↪ GSem nD τ sig :=
  ⟨fun x => ((x.1 : Thread nD τ), osem x.2), fun _ _ h =>
    Prod.ext (congrArg (fun g : GSem nD τ sig => g.1.1) h) (osem_inj (congrArg Prod.snd h))⟩

theorem over_copies (Φ : GSem nD τ sig → sProp 𝕄) : bigSep copyCells Φ = bigSep Finset.univ fun c : Dev nD => iprop(four Φ true c ∗ four Φ false c) := by
  rw [show copyCells = Finset.univ.map ownEmb from by
    unfold copyCells
    rw [Finset.map_eq_image]
    refine Finset.image_congr fun x _ => ?_
    obtain ⟨c, s, d, i⟩ := x
    cases s <;> rfl, bigSep_map, bigSep_univ_prod]
  exact bigSep_congr fun c _ => own_eq Φ c

theorem split_all (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem join_all (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

variable (ρ : Dev nD → PrngReg)

/-- What the launch hands a device. -/
def Given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem given (c : Dev nD) : Given m ρ c ⊢ iprop(plain m c ∗ (semVal (barCell c) 0 ∗ G c)) := by
  unfold Given
  rw [show unscopedBufs c (fun b => m ((c : Thread nD τ).loc b)) = StableHlo.held (c : Thread nD τ) (Pipeline.ucRefs τ sig) (V0 m c) from
      Pipeline.unscopedBufs_held c (V0 m c), unscoped]
  unfold plain
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus] <;> iassumption

theorem all_given : (bigSep Finset.univ fun c => Given m ρ c) ⊢ bigSep Finset.univ fun c : Dev nD => iprop(plain m c ∗ (semVal (barCell c) 0 ∗ G c)) :=
  bigSep_mono fun c _ => given m ρ c

/-- The protocol's own parts, made of the counters at zero and the launch element. -/
theorem funded : iprop((bigSep Finset.univ fun c : Dev nD => (semVal (barCell c) 0 : sProp 𝕄)) ∗ parked)
    ⊢ (|={Set.univ}=> iprop(∃ κ : GSem nD τ sig → ℕ, (bigSep (barCells ∪ copyCells) fun g => cellInv ER (theRd (accOf m)) (κ g) g) ∗ (bigSep barCells fun g => reached ER g 0)
      ∗ (bigSep barCells fun g => atPos ER g 0 ∅ 0) ∗ (bigSep copyCells fun g => openTok ER g) ∗ bigSep duties fun x => dutyTok ER x.1 x.2.1 x.2.2) : sProp 𝕄) := by
  rw [← over_bars (fun g => (semVal g 0 : sProp 𝕄))]
  unfold parked
  iintro H
  imod (Rounds.fund_launch ER (theRd (accOf m)) cells_apart (fun g _ h => h) duties) $$ H with ⟨%κ, -, Hinv, Hr, Hat, Hopen, Htok⟩
  imodintro
  iexists κ
  isplitl [Hinv]; · iexact Hinv
  isplitl [Hr]; · iexact Hr
  isplitl [Hat]; · iexact Hat
  isplitl [Hopen] <;> iassumption

theorem bars_dealt : (bigSep barCells fun g => (atPos ER g 0 ∅ 0 : sProp 𝕄)) ⊢ bigSep Finset.univ fun c : Dev nD => (bar0 c : sProp 𝕄) :=
  Entails.of_eq (over_bars fun g => atPos ER g 0 ∅ 0)
theorem opens_dealt : (bigSep copyCells fun g => (openTok ER g : sProp 𝕄)) ⊢ bigSep Finset.univ fun c : Dev nD => (opens c : sProp 𝕄) :=
  Entails.of_eq (over_copies fun g => openTok ER g)
theorem toks_dealt : (bigSep duties fun x => (dutyTok ER x.1 x.2.1 x.2.2 : sProp 𝕄)) ⊢ bigSep Finset.univ fun c : Dev nD => (payToks c : sProp 𝕄) :=
  BI.Entails.trans (Entails.of_eq toks_eq) toks_around

/-- The protocol's own parts, device by device. -/
theorem dealt : iprop((bigSep barCells fun g => atPos ER g 0 ∅ 0) ∗ (bigSep copyCells fun g => openTok ER g) ∗ bigSep duties fun x => dutyTok ER x.1 x.2.1 x.2.2)
    ⊢ (bigSep Finset.univ fun c : Dev nD => iprop(bar0 c ∗ (opens c ∗ payToks c)) : sProp 𝕄) := by
  iintro ⟨Ha, Ho, Ht⟩
  ihave Ha := (bars_dealt (F := F)) $$ Ha
  ihave Ho := (opens_dealt (F := F)) $$ Ho
  ihave Ht := (toks_dealt (F := F)) $$ Ht
  iapply (join_all bar0 (fun c => iprop(opens c ∗ payToks c)))
  isplitl [Ha]; · iexact Ha
  iapply (join_all opens payToks)
  isplitl [Ho] <;> iassumption

theorem counters : (bigSep Finset.univ fun c : Dev nD => iprop(semVal (barCell c) 0 ∗ G c)) ⊢ iprop((bigSep Finset.univ fun c : Dev nD => (semVal (barCell c) 0 : sProp 𝕄)) ∗ parked) := by
  rw [bigSep_sep', show (bigSep Finset.univ fun c : Dev nD => (G c : sProp 𝕄)) = parked from G_all (F := F)]

theorem all_start (κ : GSem nD τ sig → ℕ) : iprop(Ctx (accOf m) κ ∗ bigSep Finset.univ fun c : Dev nD => iprop(alone c ∗ plain m c)) ⊢ bigSep Finset.univ fun c => Start m c :=
  bigSep_with_persistent (R := Ctx (accOf m) κ) (Φ := fun c => iprop(alone c ∗ plain m c)) (Ψ := fun c => Start m c) fun c _ => start_of m κ c

/-- Every invariant made, and everything dealt. -/
theorem start : iprop((bigSep Finset.univ fun c => Given m ρ c) ∗ levAts L lv) ⊢ (|={Set.univ}=> bigSep Finset.univ (Start m) : sProp 𝕄) := by
  iintro ⟨H, Hlev⟩
  ihave H := (all_given m ρ) $$ H
  ihave H := (split_all (plain m) (fun c => iprop(semVal (barCell c) 0 ∗ G c))) $$ H
  icases H with ⟨HB, H⟩
  ihave H := (counters (F := F)) $$ H
  imod (funded m) $$ H with ⟨%κ, Hinv, Hr, Hd⟩
  imodintro
  iapply (all_start m κ)
  isplitl [Hinv Hr Hlev]
  · unfold Ctx
    isplitl [Hinv]; · iexact Hinv
    isplitl [Hr]; · iexact Hr
    iexact Hlev
  iapply (join_all alone (plain m))
  isplitl [Hd]
  · unfold alone; iapply (dealt (F := F)); iexact Hd
  iexact HB

end Cert.Ring

end
-- ==== Proof.Main.lean ====
/-
  The run of the whole program, from any memory with its counters at zero.
-/
module

public import proofs.«01_k».proof.Proof.Launch

@[expose] public section

set_option maxRecDepth 4000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig ℕ (Elt F) ℕ UU ℕ

variable (m : (ℓ : Loc nD τ sig) → Buf (Elt F) ℓ) (ρ : Dev nD → PrngReg)

abbrev theSegs (c : Dev nD) : List (Seg (pcfgs (F := F)) adm (pdats m) 0 defs₀ 𝒱₀ L lv) := segs m 𝒱₀ L lv (fun _ => Ride m) 0 (pdats m) (reg0 m) c

/-- A device's end. -/
abbrev Done (c : Dev nD) : sProp 𝕄 := iprop(StableHlo.held (c : Thread nD τ) (Pipeline.ucRefs τ sig) (V10 m (outs m) c) ∗ semVal (barCell c) 0)

/-- What a device's end says of the final state. -/
def Says (c : Dev nD) (s : MemSt nD τ sig (Elt F)) : Prop :=
  (∀ r ∈ ([main_arg0, main_arg1, main_arg2, main_arg3, main_v53] : List (Ref sig .tc)), s.mem ((c.tc : Thread nD τ).loc r) = V10 m (outs m) c (Proc.devRef .tc r))
    ∧ s.sem (barCell c) = 0

theorem named_unscoped : ∀ r ∈ ([main_arg0, main_arg1, main_arg2, main_arg3, main_v53] : List (Ref sig .tc)), ¬ (Proc.devRef .tc r : DevRef τ sig).isScoped = true := by
  decide

theorem end_says (c : Dev nD) (s' : Phys nD τ sig (Elt F)) : iprop(Done m c ∗ SI s') ⊢ (|={Set.univ}=> iprop(⌜Says m c s'.mem⌝ ∗ SI s') : sProp 𝕄) := by
  unfold Done StableHlo.held
  iintro ⟨⟨Hh, Hb⟩, HSI⟩
  icombine HSI Hb gives %hb
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    refine ⟨fun r hr => h (Proc.devRef .tc r) (Finset.mem_filter.mpr ⟨StableHlo.devRef_mem_tcRefs r, ?_⟩), by simpa using hb⟩
    exact named_unscoped r hr
  · iexact HSI

theorem only_bar : ∀ sm : SemLoc sig, sm.isScoped .tc = false → sm = .reg barS := by decide

set_option backward.isDefEq.respectTransparency.types false in
/-- THE RUN: every weakly fair execution of the program ends, its arguments as they were, its result the named one on every
    device, and every counter at zero. -/
theorem run_main : θ_run defs (onTc (τ := τ) (main (F := F))) ⟨m, fun _ => 0, ρ⟩
    (fun r => (∀ c : Dev nD, (∀ b ∈ ([main_arg0, main_arg1, main_arg2, main_arg3] : List (Ref sig .tc)), r.2.mem ((c.tc : Thread nD τ).loc b) = m ((c.tc : Thread nD τ).loc b))
        ∧ r.2.mem ((c.tc : Thread nD τ).loc main_v53) = result m c) ∧ r.2.sem = fun _ => 0) :=
  Pipeline.θ_run_regions_kit_dev_sems (pcfgs (F := F)) adm (pdats m) 0 cellOf_inj EP defs₀ 𝒱₀ L lv m ρ main (theSegs m)
    (fun c Q => by
      rewrite [main_chain c, Seg.run_eq_chain,
        show (theSegs m c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()) ] from rfl]
      dsimp (config := { failIfUnchanged := false }) only
      exact .rfl)
    (fun c => by simp only [theSegs, segs, Seg.pipes_host, Seg.pipes_region, Seg.pipes_nil]; decide)
    (O₀ := O₀) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      unfold parked; iexact HX)
    (T₀ := Start m) (Tₙ := Done m)
    (hch := fun c => ⟨.rfl, .rfl, .rfl, .rfl, .rfl, .rfl, .rfl, .rfl, .rfl, reg0_pre m c, reg0_post m c⟩)
    (hinit := start m ρ)
    (QY := Says m) (hfin := end_says m)
    (hQ := fun s h hs => ⟨fun c => ⟨fun b hb => by
          refine ((h c).1 b ?_).trans ?_
          · simp only [List.mem_cons, List.not_mem_nil, or_false] at hb ⊢
            rcases hb with rfl | rfl | rfl | rfl <;> simp
          · simp only [List.mem_cons, List.not_mem_nil, or_false] at hb
            rcases hb with rfl | rfl | rfl | rfl
            · exact V10_main_arg0 m (outs m) c
            · exact V10_main_arg1 m (outs m) c
            · exact V10_main_arg2 m (outs m) c
            · exact V10_main_arg3 m (outs m) c,
        ((h c).1 main_v53 (by simp)).trans (V10_v53 m c)⟩,
      sem_eq_zero hs fun c sm hsm => by
        obtain rfl := only_bar sm hsm
        exact (h c).2⟩)

end Cert.Ring

end
-- ==== Proof.Same.lean ====
/- The kernel read at machine words and the kernel read at extended reals are one text. -/
module

public import proofs.«01_k».proof.Proof.Gen.Kernel.Regions
public import proofs.«01_k».proof.Proof.Gen.KernelIdeal.Regions
public import proofs.«01_k».proof.Defs
public import Idealize.ShloMosaic.Adequacy

@[expose] public section

set_option maxHeartbeats 40000000

noncomputable section

namespace Cert.Same

open Idealize.ShloMosaic Idealize.SL.Sem

variable {F : FTy → Type} [FloatOps F]

theorem main0_eq : @Cert.Kernel.main_part0 F _ = @Cert.KernelIdeal.main_part0 F _ := (rfl)
theorem main1_eq : @Cert.Kernel.main_part1 F _ = @Cert.KernelIdeal.main_part1 F _ := (rfl)
theorem body_eq : @Cert.Kernel.cc0_body F _ _ = @Cert.KernelIdeal.cc0_body F _ _ := (rfl)

theorem defs0_eq : Cert.Kernel.defs₀ (F := F) = Cert.KernelIdeal.defs₀ (F := F) := by
  unfold Cert.Kernel.defs₀ Cert.KernelIdeal.defs₀
  rw [body_eq]
  refine congrArg Defs.onTc ?_
  funext i a
  match i, a with
  | 0, (t, s) => rfl
  | ⟨_ + 1, h⟩, _ => exact absurd h (Nat.not_lt.2 (Nat.le_add_left _ _))

theorem main_eq : Cert.Kernel.main (F := F) = Cert.KernelIdeal.main (F := F) := by
  unfold Cert.Kernel.main Cert.KernelIdeal.main
  rw [main0_eq, main1_eq]

theorem defs_eq : Cert.Kernel.defs (F := F) = Cert.KernelIdeal.defs (F := F) := by
  unfold Cert.Kernel.defs Cert.KernelIdeal.defs
  rw [defs0_eq]
  rfl

/-- A frame of the one is a frame of the other. -/
theorem kernel_of (h : ∀ (m : (ℓ : Loc Cert.KernelIdeal.nD Cert.KernelIdeal.τ Cert.KernelIdeal.sig) → Buf (Elt Bits) ℓ) (ρ : Dev Cert.KernelIdeal.nD → PrngReg),
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) : Cert.quiescent_Kernel := by
  intro m ρ _
  rw [main_eq, defs_eq]
  exact h m ρ

end Cert.Same

end
-- ==== Proof.Value.lean ====
/- What the travelling sums are over the extended reals. -/
module

public import proofs.«01_k».proof.Proof.Region
public import Idealize.ShloMosaic.Lib.Pointwise

@[expose] public section

noncomputable section

namespace Cert.Ring

open Cert.KernelIdeal Cert.KernelIdeal.Gen
open Idealize.ShloMosaic

/-! ## The payloads at an index -/

set_option maxRecDepth 16384

theorem pay82 (w : Vec Ideal S128x4096 .fp8e5m2) (x : Vec Ideal S128x128 .fp8e4m3) (r : Fin 128) (j : Fin 4096) :
    k0_pay8 (k0_pay2 w) x (ix2 r j) = ∑ k : Fin 128, (x (ix2 r k) : EReal) * (w (ix2 k j) : EReal) := by
  pointwise [k0_pay8, k0_pay2]
theorem pay93 (w : Vec Ideal S128x4096 .fp8e5m2) (x : Vec Ideal S128x128 .fp8e4m3) (r : Fin 128) (j : Fin 4096) :
    k0_pay9 (k0_pay3 w) x (ix2 r j) = ∑ k : Fin 128, (x (ix2 r k) : EReal) * (w (ix2 k j) : EReal) := by
  pointwise [k0_pay9, k0_pay3]
theorem pay4 (w : Vec Ideal S128x4096 .fp8e5m2) (x : Vec Ideal S128x128 .fp8e4m3) (r : Fin 128) (j : Fin 4096) :
    k0_pay4 w x (ix3 0 r j) = ∑ k : Fin 128, (x (ix2 r k) : EReal) * (w (ix2 k j) : EReal) := by
  pointwise [k0_pay4, k0_pay2]
theorem pay65 (w : Vec Ideal S128x4096 .fp8e5m2) (x : Vec Ideal S128x128 .fp8e4m3) (r : Fin 128) (j : Fin 4096) :
    k0_pay6 (k0_pay5 w x) (ix3 0 r j) = ∑ k : Fin 128, (x (ix2 r k) : EReal) * (w (ix2 k j) : EReal) := by
  pointwise [k0_pay6, k0_pay5, k0_pay3]
theorem pay1110 (p : FVec Ideal S128x4096 .f32) (a : Vec Ideal S1x128x4096 .bf16) (r : Fin 128) (j : Fin 4096) :
    k0_pay11 p (k0_pay10 a) (ix3 0 r j) = ((a (ix3 0 r j) : EReal) + (p (ix2 r j) : EReal) : EReal) := by
  pointwise [k0_pay11, k0_pay10]
theorem pay12 (p : FVec Ideal S128x4096 .f32) (a : Vec Ideal S1x128x4096 .bf16) (r : Fin 128) (j : Fin 4096) :
    k0_pay12 p a (ix3 0 r j) = ((a (ix3 0 r j) : EReal) + (p (ix2 r j) : EReal) : EReal) := by
  pointwise [k0_pay12]

/-- The activation both programs end in, as the reference writes it. -/
def act (y : EReal) : EReal :=
  Ideal.div y (Ideal.ofBits .f32 0x3F800000#32 + Ideal.exp (Ideal.ofBits .f32 0x00000000#32
    - min (Ideal.ofBits .f32 0x42700000#32) (max (Ideal.ofBits .f32 0xC2700000#32) y)))

theorem exp_nonneg (y : EReal) : 0 ≤ Ideal.exp y := by
  induction y with
  | bot => exact le_refl (0 : EReal)
  | top => exact (le_top : (0 : EReal) ≤ ⊤)
  | coe x => exact EReal.coe_nonneg.mpr (Real.exp_nonneg x)

/-- Multiplying by a reciprocal is dividing, the divisor being at least one. -/
theorem mul_recip (y z : EReal) :
    y * Ideal.div (Ideal.ofBits .f32 0x3F800000#32) (Ideal.ofBits .f32 0x3F800000#32 + Ideal.exp z)
      = Ideal.div y (Ideal.ofBits .f32 0x3F800000#32 + Ideal.exp z) := by
  rw [Ideal.ofBits_one_f32]
  have h : (1 : EReal) + Ideal.exp z ≠ 0 := fun e => by
    have h1 : (1 : EReal) ≤ 1 + Ideal.exp z := le_add_of_nonneg_right (exp_nonneg z)
    rw [e] at h1
    exact absurd h1 (by norm_num)
  unfold Ideal.div
  rw [if_neg h, if_neg h, one_mul]

theorem pay141 (s : Ideal .f32) (p : FVec Ideal S128x4096 .f32) (a : Vec Ideal S1x128x4096 .bf16) (r : Fin 128) (j : Fin 4096) :
    k0_pay141 s p (k0_pay140 a) (ix2 r j) = act (((a (ix3 0 r j) : EReal) + (p (ix2 r j) : EReal)) * s) := by
  unfold act
  rw [← mul_recip]
  pointwise [k0_pay141, k0_pay140]
theorem pay1 (s : Ideal .f32) (p : FVec Ideal S128x4096 .f32) (a : Vec Ideal S1x128x4096 .bf16) (r : Fin 128) (j : Fin 4096) :
    k0_pay1 s p a (ix2 r j) = act (((a (ix3 0 r j) : EReal) + (p (ix2 r j) : EReal)) * s) := by
  unfold act
  rw [← mul_recip]
  pointwise [k0_pay1]

/-! ## What is loaded -/

section
variable (X : Dev nD → S4096x128.Idx → Elt Ideal .fp8e4m3) (Wt : Dev nD → S128x8192.Idx → Elt Ideal .fp8e5m2)

theorem row_lt (e : Dev nD) (r : Fin 128) : e.val * 128 + r.val < 4096 := by
  have h1 : e.val < 32 := e.isLt
  have h2 := r.isLt
  omega

theorem xrows_apply (c e : Dev nD) (r k : Fin 128) : xrows X c e (ix2 r k) = X c (ix2 ⟨e.val * 128 + r.val, row_lt e r⟩ k) := by
  show X c _ = X c _
  congr 1; funext a; apply Fin.ext
  have h := off3_wd e
  match a with
  | 0 => exact (congrArg (· + 1 * r.val) (congrFun h 0)).trans (by show e.val * 128 + 1 * r.val = e.val * 128 + r.val; omega)
  | 1 => exact (congrArg (· + 1 * k.val) (congrFun h 1)).trans (by show 0 + 1 * k.val = k.val; omega)

/-- The column of the whole product a half's column is. -/
def col (d : Bool) (j : Fin 4096) : Fin 8192 := ⟨if d then j.val else 4096 + j.val, by have := j.isLt; split <;> omega⟩

theorem wL_apply (c : Dev nD) (k : Fin 128) (j : Fin 4096) : wL Wt c (ix2 k j) = Wt c (ix2 k (col true j)) := by
  show Wt c _ = Wt c _
  congr 1; funext a; apply Fin.ext
  match a with
  | 0 => show 0 + 1 * k.val = k.val; omega
  | 1 => show 0 + 1 * j.val = j.val; omega
theorem wR_apply (c : Dev nD) (k : Fin 128) (j : Fin 4096) : wR Wt c (ix2 k j) = Wt c (ix2 k (col false j)) := by
  show Wt c _ = Wt c _
  congr 1; funext a; apply Fin.ext
  match a with
  | 0 => show 0 + 1 * k.val = k.val; omega
  | 1 => show 4096 + 1 * j.val = 4096 + j.val; omega

/-! ## The travelling sums -/

/-- What device `c` contributes to row `r` of block `e`, column `j`. -/
def term (e c : Dev nD) (r : Fin 128) (j : Fin 8192) : EReal :=
  ∑ k : Fin 128, (X c (ix2 ⟨e.val * 128 + r.val, row_lt e r⟩ k) : EReal) * (Wt c (ix2 k j) : EReal)

theorem part_apply (d : Bool) (h : ℕ) (c : Dev nD) (r : Fin 128) (j : Fin 4096) :
    part X Wt d h c (ix2 r j) = term X Wt (far d (h + 2) c) c r (col d j) := by
  cases d
  · exact (pay93 _ _ r j).trans (Finset.sum_congr rfl fun k _ => by rw [xrows_apply, wR_apply])
  · exact (pay82 _ _ r j).trans (Finset.sum_congr rfl fun k _ => by rw [xrows_apply, wL_apply])

theorem acc_zero (d : Bool) (c : Dev nD) (r : Fin 128) (j : Fin 4096) :
    acc X Wt d 0 c (ix3 0 r j) = term X Wt (far d 1 c) c r (col d j) := by
  rw [far_one]
  cases d
  · exact (pay65 _ _ r j).trans (Finset.sum_congr rfl fun k _ => by rw [xrows_apply, wR_apply]; rfl)
  · exact (pay4 _ _ r j).trans (Finset.sum_congr rfl fun k _ => by rw [xrows_apply, wL_apply]; rfl)

theorem acc_succ (d : Bool) (h : ℕ) (c : Dev nD) (r : Fin 128) (j : Fin 4096) :
    acc X Wt d (h + 1) c (ix3 0 r j) = ((acc X Wt d h (nb (!d) c) (ix3 0 r j) : EReal) + (part X Wt d h c (ix2 r j) : EReal) : EReal) := by
  cases d
  · exact pay12 _ _ r j
  · exact pay1110 _ _ r j

/-- After `h` hops the sum holds the contributions of `h + 1` devices to the block that is `h + 1` places behind. -/
theorem acc_apply (d : Bool) (h : ℕ) (c : Dev nD) (r : Fin 128) (j : Fin 4096) :
    acc X Wt d h c (ix3 0 r j) = ∑ i ∈ Finset.range (h + 1), term X Wt (far d (h + 1) c) (far d i c) r (col d j) := by
  induction h generalizing c with
  | zero => rw [acc_zero, Finset.sum_range_one, far_zero]
  | succ h ih =>
    rw [acc_succ, ih, part_apply, Finset.sum_range_succ' _ (h + 1), far_zero]
    simp only [far_succ d (h + 1), far_succ d _ c]

theorem sum_far (d : Bool) (c : Dev nD) (f : Dev nD → EReal) : ∑ i ∈ Finset.range 32, f (far d i c) = ∑ e : Dev nD, f e := by
  rw [← Fin.sum_univ_eq_sum_range (fun i => f (far d i c)) 32]
  refine Fintype.sum_bijective (fun i : Fin 32 => far d i.val c) ((Fintype.bijective_iff_injective_and_card _).mpr ⟨?_, by decide⟩) _ _ fun _ => rfl
  revert d c; decide +kernel

/-- At the end it holds everyone's contributions to the device's own block. -/
theorem last_apply (d : Bool) (c : Dev nD) (r : Fin 128) (j : Fin 4096) :
    ((acc X Wt d 30 (nb (!d) c) (ix3 0 r j) : EReal) + (part X Wt d 30 c (ix2 r j) : EReal) : EReal)
      = ∑ e : Dev nD, term X Wt c e r (col d j) := by
  rw [← acc_succ, acc_apply, far_32, sum_far d c fun e => term X Wt c e r (col d j)]

theorem outL_apply (s : Ideal .f32) (c : Dev nD) (r : Fin 128) (j : Fin 4096) :
    outL X Wt s c (ix2 r j) = act ((∑ e : Dev nD, term X Wt c e r (col true j)) * s) := by
  rw [← last_apply]; exact pay141 s _ _ r j
theorem outR_apply (s : Ideal .f32) (c : Dev nD) (r : Fin 128) (j : Fin 4096) :
    outR X Wt s c (ix2 r j) = act ((∑ e : Dev nD, term X Wt c e r (col false j)) * s) := by
  rw [← last_apply]; exact pay1 s _ _ r j

/-- The halves side by side, at an index. -/
theorem join_apply (s : Ideal .f32) (c : Dev nD) (r : Fin 128) (j : Fin 8192) :
    joinLR (outL X Wt s c) (outR X Wt s c) (ix2 r j) = act ((∑ e : Dev nD, term X Wt c e r j) * s) := by
  unfold joinLR
  by_cases h : j.val < 4096
  · refine (dif_pos h).trans ((outL_apply X Wt s c r ⟨j.val, h⟩).trans ?_)
    rfl
  · have e : col false ⟨j.val - 4096, by have := j.isLt; omega⟩ = j := Fin.ext (by show 4096 + (j.val - 4096) = j.val; omega)
    refine (dif_neg h).trans ((outR_apply X Wt s c r ⟨j.val - 4096, by have := j.isLt; omega⟩).trans ?_)
    rw [e]

end

end Cert.Ring

end
-- ==== Proof.RefValue.lean ====
/- The array the reference leaves, as a function of its arguments. -/
module

public import proofs.«01_k».proof.Proof.Gen.ReferenceIdeal.Value
public import proofs.«01_k».proof.Proof.Value
public import Idealize.ShloMosaic.Lib.Pipeline.ValueKit
public import Idealize.ShloMosaic.Lib.Pipeline.ReadBack
public import Idealize.ShloMosaic.Lib.Pointwise

@[expose] public section

noncomputable section

namespace Cert.RefValue

open Cert.ReferenceIdeal Cert.ReferenceIdeal.Gen
open Idealize.ShloMosaic Idealize.ShloMosaic.TcCoe Idealize.SL.Sem

/-- The reference's result over whole arrays. -/
def refOut (X : S4096x4096.Idx → Elt Ideal .fp8e4m3) (W : S4096x8192.Idx → Elt Ideal .fp8e5m2) (s t : S1.Idx → Elt Ideal .f32) :
    S4096x8192.Idx → Elt Ideal .f32 := fun i =>
  Cert.Ring.act ((∑ k : Fin 4096, (X (ix2 (i 0) k) : EReal) * (W (ix2 k (i 1)) : EReal)) * ((s (ix1 0) : EReal) * (t (ix1 0) : EReal)))

set_option maxRecDepth 16384 in
theorem pay (X : Vec Ideal S4096x4096 .fp8e4m3) (W : Vec Ideal S4096x8192 .fp8e5m2) (s t : Elt Ideal .f32) (r : Fin 4096) (j : Fin 8192) :
    k0_pay1 X W s t (ix2 r j) = Cert.Ring.act ((∑ k : Fin 4096, (X (ix2 r k) : EReal) * (W (ix2 k j) : EReal)) * ((s : EReal) * (t : EReal))) := by
  unfold Cert.Ring.act
  pointwise [k0_pay1]

variable (m : (ℓ : Loc nD τ sig) → Buf (Elt Ideal) ℓ) (ρ : Dev nD → PrngReg)

theorem at0 (w : Fin 5) (t : Fin cfg0.N) (a) : (win0 w).index t a = 0 := by revert w t a; decide

theorem blk0 (c : Dev nD) (t : Fin cfg0.N) : iblk m c 0 t = m ((c : Thread nD τ).loc main_arg0) :=
  (funext fun y => congrArg (V m c main_arg0) (funext fun a => Fin.ext (Pipeline.Window.rect_emb_val_of_index_zero win0_0 t a (at0 0 t a) y))).trans (V_main_arg0 m c)
theorem blk1 (c : Dev nD) (t : Fin cfg0.N) : iblk m c 1 t = m ((c : Thread nD τ).loc main_arg1) :=
  (funext fun y => congrArg (V m c main_arg1) (funext fun a => Fin.ext (Pipeline.Window.rect_emb_val_of_index_zero win0_1 t a (at0 1 t a) y))).trans (V_main_arg1 m c)

theorem V_v0 (c : Dev nD) : V m c main_v0 = (shapeCast S1x1 (m (c, Proc.devRef .tc main_arg2) : S1.Idx → Elt Ideal .f32) shapeCasts_S1_S1x1 : S1x1.Idx → Elt Ideal .f32) := by
  after_reads_simp
  rfl
theorem V_v1 (c : Dev nD) : V m c main_v1 = (shapeCast S1x1 (m (c, Proc.devRef .tc main_arg3) : S1.Idx → Elt Ideal .f32) shapeCasts_S1_S1x1 : S1x1.Idx → Elt Ideal .f32) := by
  after_reads_simp
  rfl
theorem blk2 (c : Dev nD) (t : Fin cfg0.N) : iblk m c 2 t = V m c main_v0 :=
  funext fun y => congrArg (V m c main_v0) (funext fun a => Fin.ext (Pipeline.Window.rect_emb_val_of_index_zero win0_2 t a (at0 2 t a) y))
theorem blk3 (c : Dev nD) (t : Fin cfg0.N) : iblk m c 3 t = V m c main_v1 :=
  funext fun y => congrArg (V m c main_v1) (funext fun a => Fin.ext (Pipeline.Window.rect_emb_val_of_index_zero win0_3 t a (at0 3 t a) y))

/-- A one-element vector as a one-element matrix, read at its element. -/
theorem one_cast (s : S1.Idx → Elt Ideal .f32) (i : S1x1.Idx) : shapeCast S1x1 s shapeCasts_S1_S1x1 i = s (ix1 0) := by
  unfold shapeCast
  congr 1; funext a; apply Fin.ext
  match a with
  | 0 => exact Nat.lt_one_iff.mp (Fin.isLt _)

theorem arr (c : Dev nD) : (dats m 0 c).arrAt 4 cfg0.N
    = refOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  have e : ((View.whole main_v2).slice (win0_4.rect t)).emb y = y :=
    funext fun a => Fin.ext (Pipeline.Window.rect_emb_val_of_index_zero win0_4 t a (at0 4 t a) y)
  rw [e]
  simp only [read_unread_whole]
  rw [blk0, blk1, blk2, blk3, V_v0, V_v1, one_cast, one_cast]
  obtain ⟨r, j, rfl⟩ : ∃ (r : Fin 4096) (j : Fin 8192), y = ix2 r j := ⟨y 0, y 1, eq_ix2 y⟩
  exact pay _ _ _ _ r j

/-- The reference's run with its result named. -/
theorem run : θ_run defs (onTc (τ := τ) (main (F := Ideal))) ⟨m, fun _ => 0, ρ⟩ fun r => ∀ c : Dev nD,
      r.2.mem ((c : Thread nD τ).loc main_v2)
        = refOut (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr m c), (h c).2⟩) (Cert.ReferenceIdeal.Value.run_blocks m ρ)

end Cert.RefValue

end
-- ==== Proof.Agree.lean ====
/- The kernel's result on a device is that device's block of the reference's. -/
module

public import proofs.«01_k».proof.Proof.Value
public import proofs.«01_k».proof.Proof.RefValue
public import Idealize.ShloMosaic.Lib.Layout

@[expose] public section

noncomputable section

namespace Cert.Ring

open Cert.KernelIdeal Cert.KernelIdeal.Gen
open Idealize.ShloMosaic
open Idealize.ShloMosaic.TcCoe

variable (m : (ℓ : Loc nD τ sig) → Buf (Elt Ideal) ℓ) (c : Dev nD)

/-- The product of the scales as a device reads them. -/
theorem scl_apply (s t : S1.Idx → Elt Ideal .f32) (hs : m ((c : Thread nD τ).loc main_arg2) = s) (ht : m ((c : Thread nD τ).loc main_arg3) = t) :
    scl (argS m) (argT m) c = ((s (ix1 0) : EReal) * (t (ix1 0) : EReal) : EReal) := by
  have h := V9_scale m c
  have e2 : scal sxM (argS m c) = s (ix1 0) := ((congrFun h.1 _).trans (Cert.RefValue.one_cast _ _)).trans (congrFun hs _)
  have e3 : scal swM (argT m c) = t (ix1 0) := ((congrFun h.2 _).trans (Cert.RefValue.one_cast _ _)).trans (congrFun ht _)
  show Scalar.mulf (scal sxM (argS m c)) (scal swM (argT m c)) = _
  rw [e2, e3]
  rfl

theorem argX_eq : argX m c = m ((c : Thread nD τ).loc main_arg0) := V9_arg m c main_arg0 (by decide)
theorem argW_eq : argW m c = m ((c : Thread nD τ).loc main_arg1) := V9_arg m c main_arg1 (by decide)

/-- A sum over the whole contracted axis is the sum over the devices of the sums over their shares. -/
theorem sum_shares (f : Fin 4096 → EReal) :
    ∑ e : Fin 32, ∑ k : Fin 128, f ⟨e.val * 128 + k.val, by have := e.isLt; have := k.isLt; omega⟩ = ∑ k : Fin 4096, f k := by
  rw [← Fintype.sum_prod_type']
  refine Fintype.sum_equiv (finProdFinEquiv (m := 32) (n := 128)) _ _ fun p => congrArg f (Fin.ext ?_)
  show p.1.val * 128 + p.2.val = p.2.val + 128 * p.1.val
  omega

variable (X : (⟨2, ![4096, 4096]⟩ : Shape).Idx → Elt Ideal .fp8e4m3) (W : (⟨2, ![4096, 8192]⟩ : Shape).Idx → Elt Ideal .fp8e5m2)
  (s t : (⟨1, ![1]⟩ : Shape).Idx → Elt Ideal .f32)

theorem agree
    (hX : ∀ e : Dev nD, m ((e : Thread nD τ).loc main_arg0) = Layout.block ⟨2, ![4096, 128]⟩ ⟨2, ![4096, 4096]⟩ 1 32 e X)
    (hW : ∀ e : Dev nD, m ((e : Thread nD τ).loc main_arg1) = Layout.block ⟨2, ![128, 8192]⟩ ⟨2, ![4096, 8192]⟩ 0 32 e W)
    (hs : m ((c : Thread nD τ).loc main_arg2) = s) (ht : m ((c : Thread nD τ).loc main_arg3) = t) :
    result m c = Layout.block ⟨2, ![128, 8192]⟩ ⟨2, ![4096, 8192]⟩ 0 32 c (Cert.RefValue.refOut X W s t) := by
  funext i
  obtain ⟨r, j, rfl⟩ : ∃ (r : Fin 128) (j : Fin 8192), i = ix2 r j := ⟨i 0, i 1, eq_ix2 i⟩
  refine (join_apply (argX m) (argW m) (scl (argS m) (argT m) c) c r j).trans ?_
  rw [scl_apply m c s t hs ht]
  show act _ = act _
  congr 2
  refine Eq.trans ?_ (sum_shares _)
  refine Finset.sum_congr rfl fun e _ => Finset.sum_congr rfl fun k _ => ?_
  rw [argX_eq, argW_eq, hX, hW]
  refine congrArg₂ (fun a b : EReal => a * b) (congrArg X ?_) (congrArg W ?_)
  · funext a; apply Fin.ext
    match a with
    | 0 => exact (Layout.idx_cols_val _ e (ix2 _ k)).1
    | 1 => exact (Layout.idx_cols_val _ e (ix2 _ k)).2
  · funext a; apply Fin.ext
    match a with
    | 0 => exact (Layout.idx_rows_val _ e (ix2 k j)).1
    | 1 => exact (Layout.idx_rows_val _ e (ix2 k j)).2

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Main
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The frame that the run gives, at any reading of the floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c).1 _ (by simp), (h.1 c).1 _ (by simp), (h.1 c).1 _ (by simp), (h.1 c).1 _ (by simp)⟩, h.2⟩)
    (Cert.Ring.run_main m ρ)

/-- The same text, read at the machine words. -/
theorem frame_kernel : Cert.quiescent_Kernel := Cert.Same.kernel_of fun m ρ => frame_any (F := Bits) m ρ
theorem frame_kernelIdeal : Cert.quiescent_KernelIdeal := fun m ρ _ => frame_any (F := Ideal) m ρ
theorem frame_referenceIdeal : Cert.quiescent_ReferenceIdeal := fun m ρ _ => Cert.ReferenceIdeal.Gen.frame m ρ

/-- Each device's result is its block of the reference's result. -/
theorem algebraic : Cert.algebraic_KernelIdeal_ReferenceIdeal := fun m g m' g' _ hin =>
  ⟨_, (θ_run Cert.KernelIdeal.defs _ _).mono
      (fun _ h c => ⟨(h.1 c).2.trans (Cert.Ring.agree m c _ _ _ _ (fun e => (hin e).1) (fun e => (hin e).2.1) (hin c).2.2.1 (hin c).2.2.2),
        (h.1 c).1 _ (by simp), (h.1 c).1 _ (by simp), (h.1 c).1 _ (by simp), (h.1 c).1 _ (by simp)⟩)
      (Cert.Ring.run_main m g),
    (θ_run Cert.ReferenceIdeal.defs _ _).mono (fun _ h => h 0) (Cert.RefValue.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
